-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.BufferStatement Cert.KernelIdeal.S20x56x2x128 Cert.KernelIdeal.S20x56x1x128
  ∧ IdealRules.bf16_pair.PackStatement Cert.KernelIdeal.S56x128
  ∧ IdealRules.bf16_pair.Statement Cert.KernelIdeal.S1x56x2x128 Cert.KernelIdeal.S1x56x1x128
  ∧ IdealRules.bf16_pair.Statement Cert.KernelIdeal.S1x1x2x128 Cert.KernelIdeal.S1x1x1x128
  ∧ IdealRules.bf16_pair.Statement Cert.KernelIdeal.S16x128 Cert.KernelIdeal.S8x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1024x7168 : Shape := ⟨3, ![16, 1024, 7168]⟩
abbrev S7168x320 : Shape := ⟨2, ![7168, 320]⟩
abbrev S56x2560 : Shape := ⟨2, ![56, 2560]⟩
abbrev S56x320 : Shape := ⟨2, ![56, 320]⟩
abbrev S16384x7168 : Shape := ⟨2, ![16384, 7168]⟩
abbrev S16384x2560 : Shape := ⟨2, ![16384, 2560]⟩
abbrev S256x7168 : Shape := ⟨2, ![256, 7168]⟩
abbrev S256x2560 : Shape := ⟨2, ![256, 2560]⟩
abbrev S7168x2560 : Shape := ⟨2, ![7168, 2560]⟩
abbrev S20x56x128 : Shape := ⟨3, ![20, 56, 128]⟩
abbrev S56x128 : Shape := ⟨2, ![56, 128]⟩
abbrev S1x56x128 : Shape := ⟨3, ![1, 56, 128]⟩
abbrev S8x128 : Shape := ⟨2, ![8, 128]⟩
abbrev S8x64 : Shape := ⟨2, ![8, 64]⟩
abbrev S8x128x1 : Shape := ⟨3, ![8, 128, 1]⟩
abbrev S1x8x128 : Shape := ⟨3, ![1, 8, 128]⟩
abbrev S1x1x128 : Shape := ⟨3, ![1, 1, 128]⟩
abbrev S1x128 : Shape := ⟨2, ![1, 128]⟩
abbrev S16x128 : Shape := ⟨2, ![16, 128]⟩
abbrev S16x64 : Shape := ⟨2, ![16, 64]⟩
abbrev S7168x256 : Shape := ⟨2, ![7168, 256]⟩
abbrev S256x256 : Shape := ⟨2, ![256, 256]⟩
abbrev S16x1024x2560 : Shape := ⟨3, ![16, 1024, 2560]⟩

abbrev nBuf : Space → Nat
  | .hbm => 7
  | .vmem => 10
  | .smem => 0
  | _ => 0

abbrev bufTy : (tb : Table) → Fin (tcTables nBuf tb) → BufTy
  | .hbm, ⟨0, _⟩ => ⟨S16x1024x7168, .bf16⟩
  | .hbm, ⟨1, _⟩ => ⟨S7168x320, .i32⟩
  | .hbm, ⟨2, _⟩ => ⟨S56x2560, .bf16⟩
  | .hbm, ⟨3, _⟩ => ⟨S56x320, .i32⟩
  | .hbm, ⟨4, _⟩ => ⟨S16384x7168, .bf16⟩
  | .hbm, ⟨5, _⟩ => ⟨S16384x2560, .bf16⟩
  | .hbm, ⟨6, _⟩ => ⟨S16x1024x2560, .bf16⟩
  | .local _ .vmem, ⟨0, _⟩ => ⟨S256x7168, .bf16⟩
  | .local _ .vmem, ⟨1, _⟩ => ⟨S256x7168, .bf16⟩
  | .local _ .vmem, ⟨2, _⟩ => ⟨S7168x320, .i32⟩
  | .local _ .vmem, ⟨3, _⟩ => ⟨S56x2560, .bf16⟩
  | .local _ .vmem, ⟨4, _⟩ => ⟨S56x320, .i32⟩
  | .local _ .vmem, ⟨5, _⟩ => ⟨S256x2560, .bf16⟩
  | .local _ .vmem, ⟨6, _⟩ => ⟨S256x2560, .bf16⟩
  | .local _ .vmem, ⟨7, _⟩ => ⟨S7168x2560, .bf16⟩
  | .local _ .vmem, ⟨8, _⟩ => ⟨S20x56x128, .i32⟩
  | .local _ .vmem, ⟨9, _⟩ => ⟨S20x56x128, .i32⟩
  | _, _ => ⟨S16x1024x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [BitOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_1448 : BitVec 32 := 0#32
  let c56_i32 : BitVec 32 := 56#32
  let v3137 : BitVec 32 := Scalar.addi c0_i32_1448 c56_i32
  let c1_i32_1449 : BitVec 32 := 1#32
  ⟨c0_i32_1448, v3137, c1_i32_1449⟩
def k0_off1 (k0_t1 : Fin k0_t1_loop.trips) : Fin 3 → Nat :=
  let c0_1451 : Index := 0#32
  let c0_i32_1448 : BitVec 32 := 0#32
  let c1_i32_1449 : BitVec 32 := 1#32
  let arg9 : BitVec 32 := Scf.iv c0_i32_1448 c1_i32_1449 k0_t1
  let v3138 : Index := Scalar.indexCast arg9
  let c0_1452 : Index := 0#32
  ![0, v3138.toNat, 0]
def k0_off2 (k0_t1 : Fin k0_t1_loop.trips) : Fin 3 → Nat :=
  let c1_1453 : Index := 1#32
  let c0_i32_1448 : BitVec 32 := 0#32
  let c1_i32_1449 : BitVec 32 := 1#32
  let arg9 : BitVec 32 := Scf.iv c0_i32_1448 c1_i32_1449 k0_t1
  let v3144 : Index := Scalar.indexCast arg9
  let c0_1454 : Index := 0#32
  ![1, v3144.toNat, 0]
def k0_off3 (k0_t1 : Fin k0_t1_loop.trips) : Fin 3 → Nat :=
  let c2_1455 : Index := 2#32
  let c0_i32_1448 : BitVec 32 := 0#32
  let c1_i32_1449 : BitVec 32 := 1#32
  let arg9 : BitVec 32 := Scf.iv c0_i32_1448 c1_i32_1449 k0_t1
  let v3150 : Index := Scalar.indexCast arg9
  let c0_1456 : Index := 0#32
  ![2, v3150.toNat, 0]
def k0_off4 (k0_t1 : Fin k0_t1_loop.trips) : Fin 3 → Nat :=
  let c3_1457 : Index := 3#32
  let c0_i32_1448 : BitVec 32 := 0#32
  let c1_i32_1449 : BitVec 32 := 1#32
  let arg9 : BitVec 32 := Scf.iv c0_i32_1448 c1_i32_1449 k0_t1
  let v3156 : Index := Scalar.indexCast arg9
  let c0_1458 : Index := 0#32
  ![3, v3156.toNat, 0]
def k0_mult1 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_1467 : BitVec 32 := 128#32
  let v3182 : BitVec 32 := Scalar.muli arg9 c128_i32_1467
  let c0_i32_1468 : BitVec 32 := 0#32
  let v3183 : BitVec 32 := Scalar.addi v3182 c0_i32_1468
  v3183
def k0_off5 (k0_t1 : Fin k0_t1_loop.trips) (c0_i32_1468 : BitVec 32) : Fin 2 → Nat :=
  let c0_i32_1448 : BitVec 32 := 0#32
  let c1_i32_1449 : BitVec 32 := 1#32
  let arg9 : BitVec 32 := Scf.iv c0_i32_1448 c1_i32_1449 k0_t1
  let c128_i32_1467 : BitVec 32 := 128#32
  let v3182 : BitVec 32 := Scalar.muli arg9 c128_i32_1467
  let v3183 : BitVec 32 := Scalar.addi v3182 c0_i32_1468
  let v3184 : BitVec 32 := v3183
  let v3185 : Index := Scalar.indexCast v3184
  let c0_1469 : Index := 0#32
  ![v3185.toNat, 0]
def k0_off6 (k0_t1 : Fin k0_t1_loop.trips) (c0_i32_1468 : BitVec 32) : Fin 2 → Nat :=
  let c0_i32_1448 : BitVec 32 := 0#32
  let c1_i32_1449 : BitVec 32 := 1#32
  let arg9 : BitVec 32 := Scf.iv c0_i32_1448 c1_i32_1449 k0_t1
  let c128_i32_1467 : BitVec 32 := 128#32
  let v3182 : BitVec 32 := Scalar.muli arg9 c128_i32_1467
  let v3183 : BitVec 32 := Scalar.addi v3182 c0_i32_1468
  let v3184 : BitVec 32 := v3183
  let v3212 : Index := Scalar.indexCast v3184
  let c0_1476 : Index := 0#32
  ![v3212.toNat, 0]
def k0_off7 (k0_t1 : Fin k0_t1_loop.trips) (c0_i32_1468 : BitVec 32) : Fin 2 → Nat :=
  let c0_i32_1448 : BitVec 32 := 0#32
  let c1_i32_1449 : BitVec 32 := 1#32
  let arg9 : BitVec 32 := Scf.iv c0_i32_1448 c1_i32_1449 k0_t1
  let c128_i32_1467 : BitVec 32 := 128#32
  let v3182 : BitVec 32 := Scalar.muli arg9 c128_i32_1467
  let v3183 : BitVec 32 := Scalar.addi v3182 c0_i32_1468
  let v3184 : BitVec 32 := v3183
  let v3234 : Index := Scalar.indexCast v3184
  let c128_1482 : Index := 128#32
  ![v3234.toNat, 128]
def k0_off8 (k0_t1 : Fin k0_t1_loop.trips) (c0_i32_1468 : BitVec 32) : Fin 2 → Nat :=
  let c0_i32_1448 : BitVec 32 := 0#32
  let c1_i32_1449 : BitVec 32 := 1#32
  let arg9 : BitVec 32 := Scf.iv c0_i32_1448 c1_i32_1449 k0_t1
  let c128_i32_1467 : BitVec 32 := 128#32
  let v3182 : BitVec 32 := Scalar.muli arg9 c128_i32_1467
  let v3183 : BitVec 32 := Scalar.addi v3182 c0_i32_1468
  let v3184 : BitVec 32 := v3183
  let v3256 : Index := Scalar.indexCast v3184
  let c256_1488 : Index := 256#32
  ![v3256.toNat, 256]
def k0_off9 (k0_t1 : Fin k0_t1_loop.trips) (c0_i32_1468 : BitVec 32) : Fin 2 → Nat :=
  let c0_i32_1448 : BitVec 32 := 0#32
  let c1_i32_1449 : BitVec 32 := 1#32
  let arg9 : BitVec 32 := Scf.iv c0_i32_1448 c1_i32_1449 k0_t1
  let c128_i32_1467 : BitVec 32 := 128#32
  let v3182 : BitVec 32 := Scalar.muli arg9 c128_i32_1467
  let v3183 : BitVec 32 := Scalar.addi v3182 c0_i32_1468
  let v3184 : BitVec 32 := v3183
  let v3278 : Index := Scalar.indexCast v3184
  let c384_1494 : Index := 384#32
  ![v3278.toNat, 384]
def k0_mult2 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_1495 : BitVec 32 := 128#32
  let v3282 : BitVec 32 := Scalar.muli arg9 c128_i32_1495
  let c16_i32_1496 : BitVec 32 := 16#32
  let v3283 : BitVec 32 := Scalar.addi v3282 c16_i32_1496
  v3283
def k0_mult3 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_1523 : BitVec 32 := 128#32
  let v3382 : BitVec 32 := Scalar.muli arg9 c128_i32_1523
  let c32_i32_1524 : BitVec 32 := 32#32
  let v3383 : BitVec 32 := Scalar.addi v3382 c32_i32_1524
  v3383
def k0_mult4 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_1551 : BitVec 32 := 128#32
  let v3482 : BitVec 32 := Scalar.muli arg9 c128_i32_1551
  let c48_i32_1552 : BitVec 32 := 48#32
  let v3483 : BitVec 32 := Scalar.addi v3482 c48_i32_1552
  v3483
def k0_mult5 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_1579 : BitVec 32 := 128#32
  let v3582 : BitVec 32 := Scalar.muli arg9 c128_i32_1579
  let c64_i32_1580 : BitVec 32 := 64#32
  let v3583 : BitVec 32 := Scalar.addi v3582 c64_i32_1580
  v3583
def k0_mult6 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_1607 : BitVec 32 := 128#32
  let v3682 : BitVec 32 := Scalar.muli arg9 c128_i32_1607
  let c80_i32 : BitVec 32 := 80#32
  let v3683 : BitVec 32 := Scalar.addi v3682 c80_i32
  v3683
def k0_mult7 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_1634 : BitVec 32 := 128#32
  let v3782 : BitVec 32 := Scalar.muli arg9 c128_i32_1634
  let c96_i32 : BitVec 32 := 96#32
  let v3783 : BitVec 32 := Scalar.addi v3782 c96_i32
  v3783
def k0_mult8 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_1661 : BitVec 32 := 128#32
  let v3882 : BitVec 32 := Scalar.muli arg9 c128_i32_1661
  let c112_i32 : BitVec 32 := 112#32
  let v3883 : BitVec 32 := Scalar.addi v3882 c112_i32
  v3883
def k0_off10 (k0_t1 : Fin k0_t1_loop.trips) : Fin 3 → Nat :=
  let c4_1688 : Index := 4#32
  let c0_i32_1448 : BitVec 32 := 0#32
  let c1_i32_1449 : BitVec 32 := 1#32
  let arg9 : BitVec 32 := Scf.iv c0_i32_1448 c1_i32_1449 k0_t1
  let v3982 : Index := Scalar.indexCast arg9
  let c0_1689 : Index := 0#32
  ![4, v3982.toNat, 0]
def k0_off11 (k0_t1 : Fin k0_t1_loop.trips) : Fin 3 → Nat :=
  let c5_1690 : Index := 5#32
  let c0_i32_1448 : BitVec 32 := 0#32
  let c1_i32_1449 : BitVec 32 := 1#32
  let arg9 : BitVec 32 := Scf.iv c0_i32_1448 c1_i32_1449 k0_t1
  let v3988 : Index := Scalar.indexCast arg9
  let c0_1691 : Index := 0#32
  ![5, v3988.toNat, 0]
def k0_off12 (k0_t1 : Fin k0_t1_loop.trips) : Fin 3 → Nat :=
  let c6_1692 : Index := 6#32
  let c0_i32_1448 : BitVec 32 := 0#32
  let c1_i32_1449 : BitVec 32 := 1#32
  let arg9 : BitVec 32 := Scf.iv c0_i32_1448 c1_i32_1449 k0_t1
  let v3994 : Index := Scalar.indexCast arg9
  let c0_1693 : Index := 0#32
  ![6, v3994.toNat, 0]
def k0_off13 (k0_t1 : Fin k0_t1_loop.trips) : Fin 3 → Nat :=
  let c7_1694 : Index := 7#32
  let c0_i32_1448 : BitVec 32 := 0#32
  let c1_i32_1449 : BitVec 32 := 1#32
  let arg9 : BitVec 32 := Scf.iv c0_i32_1448 c1_i32_1449 k0_t1
  let v4000 : Index := Scalar.indexCast arg9
  let c0_1695 : Index := 0#32
  ![7, v4000.toNat, 0]
def k0_mult9 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_1704 : BitVec 32 := 128#32
  let v4026 : BitVec 32 := Scalar.muli arg9 c128_i32_1704
  let c0_i32_1705 : BitVec 32 := 0#32
  let v4027 : BitVec 32 := Scalar.addi v4026 c0_i32_1705
  v4027
def k0_off14 (k0_t1 : Fin k0_t1_loop.trips) (c0_i32_1705 : BitVec 32) : Fin 2 → Nat :=
  let c0_i32_1448 : BitVec 32 := 0#32
  let c1_i32_1449 : BitVec 32 := 1#32
  let arg9 : BitVec 32 := Scf.iv c0_i32_1448 c1_i32_1449 k0_t1
  let c128_i32_1704 : BitVec 32 := 128#32
  let v4026 : BitVec 32 := Scalar.muli arg9 c128_i32_1704
  let v4027 : BitVec 32 := Scalar.addi v4026 c0_i32_1705
  let v4028 : BitVec 32 := v4027
  let v4029 : Index := Scalar.indexCast v4028
  let c64_1706 : Index := 64#32
  ![v4029.toNat, 64]
def k0_off15 (k0_t1 : Fin k0_t1_loop.trips) (c0_i32_1705 : BitVec 32) : Fin 2 → Nat :=
  let c0_i32_1448 : BitVec 32 := 0#32
  let c1_i32_1449 : BitVec 32 := 1#32
  let arg9 : BitVec 32 := Scf.iv c0_i32_1448 c1_i32_1449 k0_t1
  let c128_i32_1704 : BitVec 32 := 128#32
  let v4026 : BitVec 32 := Scalar.muli arg9 c128_i32_1704
  let v4027 : BitVec 32 := Scalar.addi v4026 c0_i32_1705
  let v4028 : BitVec 32 := v4027
  let v4056 : Index := Scalar.indexCast v4028
  let c512_1713 : Index := 512#32
  ![v4056.toNat, 512]
def k0_off16 (k0_t1 : Fin k0_t1_loop.trips) (c0_i32_1705 : BitVec 32) : Fin 2 → Nat :=
  let c0_i32_1448 : BitVec 32 := 0#32
  let c1_i32_1449 : BitVec 32 := 1#32
  let arg9 : BitVec 32 := Scf.iv c0_i32_1448 c1_i32_1449 k0_t1
  let c128_i32_1704 : BitVec 32 := 128#32
  let v4026 : BitVec 32 := Scalar.muli arg9 c128_i32_1704
  let v4027 : BitVec 32 := Scalar.addi v4026 c0_i32_1705
  let v4028 : BitVec 32 := v4027
  let v4078 : Index := Scalar.indexCast v4028
  let c640_1719 : Index := 640#32
  ![v4078.toNat, 640]
def k0_off17 (k0_t1 : Fin k0_t1_loop.trips) (c0_i32_1705 : BitVec 32) : Fin 2 → Nat :=
  let c0_i32_1448 : BitVec 32 := 0#32
  let c1_i32_1449 : BitVec 32 := 1#32
  let arg9 : BitVec 32 := Scf.iv c0_i32_1448 c1_i32_1449 k0_t1
  let c128_i32_1704 : BitVec 32 := 128#32
  let v4026 : BitVec 32 := Scalar.muli arg9 c128_i32_1704
  let v4027 : BitVec 32 := Scalar.addi v4026 c0_i32_1705
  let v4028 : BitVec 32 := v4027
  let v4100 : Index := Scalar.indexCast v4028
  let c768_1725 : Index := 768#32
  ![v4100.toNat, 768]
def k0_off18 (k0_t1 : Fin k0_t1_loop.trips) (c0_i32_1705 : BitVec 32) : Fin 2 → Nat :=
  let c0_i32_1448 : BitVec 32 := 0#32
  let c1_i32_1449 : BitVec 32 := 1#32
  let arg9 : BitVec 32 := Scf.iv c0_i32_1448 c1_i32_1449 k0_t1
  let c128_i32_1704 : BitVec 32 := 128#32
  let v4026 : BitVec 32 := Scalar.muli arg9 c128_i32_1704
  let v4027 : BitVec 32 := Scalar.addi v4026 c0_i32_1705
  let v4028 : BitVec 32 := v4027
  let v4122 : Index := Scalar.indexCast v4028
  let c896_1731 : Index := 896#32
  ![v4122.toNat, 896]
def k0_mult10 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_1732 : BitVec 32 := 128#32
  let v4126 : BitVec 32 := Scalar.muli arg9 c128_i32_1732
  let c16_i32_1733 : BitVec 32 := 16#32
  let v4127 : BitVec 32 := Scalar.addi v4126 c16_i32_1733
  v4127
def k0_mult11 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_1760 : BitVec 32 := 128#32
  let v4226 : BitVec 32 := Scalar.muli arg9 c128_i32_1760
  let c32_i32_1761 : BitVec 32 := 32#32
  let v4227 : BitVec 32 := Scalar.addi v4226 c32_i32_1761
  v4227
def k0_mult12 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_1788 : BitVec 32 := 128#32
  let v4326 : BitVec 32 := Scalar.muli arg9 c128_i32_1788
  let c48_i32_1789 : BitVec 32 := 48#32
  let v4327 : BitVec 32 := Scalar.addi v4326 c48_i32_1789
  v4327
def k0_mult13 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_1816 : BitVec 32 := 128#32
  let v4426 : BitVec 32 := Scalar.muli arg9 c128_i32_1816
  let c64_i32_1817 : BitVec 32 := 64#32
  let v4427 : BitVec 32 := Scalar.addi v4426 c64_i32_1817
  v4427
def k0_mult14 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_1844 : BitVec 32 := 128#32
  let v4526 : BitVec 32 := Scalar.muli arg9 c128_i32_1844
  let c80_i32_1845 : BitVec 32 := 80#32
  let v4527 : BitVec 32 := Scalar.addi v4526 c80_i32_1845
  v4527
def k0_mult15 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_1872 : BitVec 32 := 128#32
  let v4626 : BitVec 32 := Scalar.muli arg9 c128_i32_1872
  let c96_i32_1873 : BitVec 32 := 96#32
  let v4627 : BitVec 32 := Scalar.addi v4626 c96_i32_1873
  v4627
def k0_mult16 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_1900 : BitVec 32 := 128#32
  let v4726 : BitVec 32 := Scalar.muli arg9 c128_i32_1900
  let c112_i32_1901 : BitVec 32 := 112#32
  let v4727 : BitVec 32 := Scalar.addi v4726 c112_i32_1901
  v4727
def k0_off19 (k0_t1 : Fin k0_t1_loop.trips) : Fin 3 → Nat :=
  let c8_1928 : Index := 8#32
  let c0_i32_1448 : BitVec 32 := 0#32
  let c1_i32_1449 : BitVec 32 := 1#32
  let arg9 : BitVec 32 := Scf.iv c0_i32_1448 c1_i32_1449 k0_t1
  let v4826 : Index := Scalar.indexCast arg9
  let c0_1929 : Index := 0#32
  ![8, v4826.toNat, 0]
def k0_off20 (k0_t1 : Fin k0_t1_loop.trips) : Fin 3 → Nat :=
  let c9_1930 : Index := 9#32
  let c0_i32_1448 : BitVec 32 := 0#32
  let c1_i32_1449 : BitVec 32 := 1#32
  let arg9 : BitVec 32 := Scf.iv c0_i32_1448 c1_i32_1449 k0_t1
  let v4832 : Index := Scalar.indexCast arg9
  let c0_1931 : Index := 0#32
  ![9, v4832.toNat, 0]
def k0_off21 (k0_t1 : Fin k0_t1_loop.trips) : Fin 3 → Nat :=
  let c10_1932 : Index := 10#32
  let c0_i32_1448 : BitVec 32 := 0#32
  let c1_i32_1449 : BitVec 32 := 1#32
  let arg9 : BitVec 32 := Scf.iv c0_i32_1448 c1_i32_1449 k0_t1
  let v4838 : Index := Scalar.indexCast arg9
  let c0_1933 : Index := 0#32
  ![10, v4838.toNat, 0]
def k0_off22 (k0_t1 : Fin k0_t1_loop.trips) : Fin 3 → Nat :=
  let c11_1934 : Index := 11#32
  let c0_i32_1448 : BitVec 32 := 0#32
  let c1_i32_1449 : BitVec 32 := 1#32
  let arg9 : BitVec 32 := Scf.iv c0_i32_1448 c1_i32_1449 k0_t1
  let v4844 : Index := Scalar.indexCast arg9
  let c0_1935 : Index := 0#32
  ![11, v4844.toNat, 0]
def k0_mult17 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_1944 : BitVec 32 := 128#32
  let v4870 : BitVec 32 := Scalar.muli arg9 c128_i32_1944
  let c0_i32_1945 : BitVec 32 := 0#32
  let v4871 : BitVec 32 := Scalar.addi v4870 c0_i32_1945
  v4871
def k0_off23 (k0_t1 : Fin k0_t1_loop.trips) (c0_i32_1945 : BitVec 32) : Fin 2 → Nat :=
  let c0_i32_1448 : BitVec 32 := 0#32
  let c1_i32_1449 : BitVec 32 := 1#32
  let arg9 : BitVec 32 := Scf.iv c0_i32_1448 c1_i32_1449 k0_t1
  let c128_i32_1944 : BitVec 32 := 128#32
  let v4870 : BitVec 32 := Scalar.muli arg9 c128_i32_1944
  let v4871 : BitVec 32 := Scalar.addi v4870 c0_i32_1945
  let v4872 : BitVec 32 := v4871
  let v4873 : Index := Scalar.indexCast v4872
  let c128_1946 : Index := 128#32
  ![v4873.toNat, 128]
def k0_off24 (k0_t1 : Fin k0_t1_loop.trips) (c0_i32_1945 : BitVec 32) : Fin 2 → Nat :=
  let c0_i32_1448 : BitVec 32 := 0#32
  let c1_i32_1449 : BitVec 32 := 1#32
  let arg9 : BitVec 32 := Scf.iv c0_i32_1448 c1_i32_1449 k0_t1
  let c128_i32_1944 : BitVec 32 := 128#32
  let v4870 : BitVec 32 := Scalar.muli arg9 c128_i32_1944
  let v4871 : BitVec 32 := Scalar.addi v4870 c0_i32_1945
  let v4872 : BitVec 32 := v4871
  let v4900 : Index := Scalar.indexCast v4872
  let c1024_1953 : Index := 1024#32
  ![v4900.toNat, 1024]
def k0_off25 (k0_t1 : Fin k0_t1_loop.trips) (c0_i32_1945 : BitVec 32) : Fin 2 → Nat :=
  let c0_i32_1448 : BitVec 32 := 0#32
  let c1_i32_1449 : BitVec 32 := 1#32
  let arg9 : BitVec 32 := Scf.iv c0_i32_1448 c1_i32_1449 k0_t1
  let c128_i32_1944 : BitVec 32 := 128#32
  let v4870 : BitVec 32 := Scalar.muli arg9 c128_i32_1944
  let v4871 : BitVec 32 := Scalar.addi v4870 c0_i32_1945
  let v4872 : BitVec 32 := v4871
  let v4922 : Index := Scalar.indexCast v4872
  let c1152_1959 : Index := 1152#32
  ![v4922.toNat, 1152]
def k0_off26 (k0_t1 : Fin k0_t1_loop.trips) (c0_i32_1945 : BitVec 32) : Fin 2 → Nat :=
  let c0_i32_1448 : BitVec 32 := 0#32
  let c1_i32_1449 : BitVec 32 := 1#32
  let arg9 : BitVec 32 := Scf.iv c0_i32_1448 c1_i32_1449 k0_t1
  let c128_i32_1944 : BitVec 32 := 128#32
  let v4870 : BitVec 32 := Scalar.muli arg9 c128_i32_1944
  let v4871 : BitVec 32 := Scalar.addi v4870 c0_i32_1945
  let v4872 : BitVec 32 := v4871
  let v4944 : Index := Scalar.indexCast v4872
  let c1280_1965 : Index := 1280#32
  ![v4944.toNat, 1280]
def k0_off27 (k0_t1 : Fin k0_t1_loop.trips) (c0_i32_1945 : BitVec 32) : Fin 2 → Nat :=
  let c0_i32_1448 : BitVec 32 := 0#32
  let c1_i32_1449 : BitVec 32 := 1#32
  let arg9 : BitVec 32 := Scf.iv c0_i32_1448 c1_i32_1449 k0_t1
  let c128_i32_1944 : BitVec 32 := 128#32
  let v4870 : BitVec 32 := Scalar.muli arg9 c128_i32_1944
  let v4871 : BitVec 32 := Scalar.addi v4870 c0_i32_1945
  let v4872 : BitVec 32 := v4871
  let v4966 : Index := Scalar.indexCast v4872
  let c1408_1971 : Index := 1408#32
  ![v4966.toNat, 1408]
def k0_mult18 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_1972 : BitVec 32 := 128#32
  let v4970 : BitVec 32 := Scalar.muli arg9 c128_i32_1972
  let c16_i32_1973 : BitVec 32 := 16#32
  let v4971 : BitVec 32 := Scalar.addi v4970 c16_i32_1973
  v4971
def k0_mult19 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_2000 : BitVec 32 := 128#32
  let v5070 : BitVec 32 := Scalar.muli arg9 c128_i32_2000
  let c32_i32_2001 : BitVec 32 := 32#32
  let v5071 : BitVec 32 := Scalar.addi v5070 c32_i32_2001
  v5071
def k0_mult20 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_2028 : BitVec 32 := 128#32
  let v5170 : BitVec 32 := Scalar.muli arg9 c128_i32_2028
  let c48_i32_2029 : BitVec 32 := 48#32
  let v5171 : BitVec 32 := Scalar.addi v5170 c48_i32_2029
  v5171
def k0_mult21 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_2056 : BitVec 32 := 128#32
  let v5270 : BitVec 32 := Scalar.muli arg9 c128_i32_2056
  let c64_i32_2057 : BitVec 32 := 64#32
  let v5271 : BitVec 32 := Scalar.addi v5270 c64_i32_2057
  v5271
def k0_mult22 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_2084 : BitVec 32 := 128#32
  let v5370 : BitVec 32 := Scalar.muli arg9 c128_i32_2084
  let c80_i32_2085 : BitVec 32 := 80#32
  let v5371 : BitVec 32 := Scalar.addi v5370 c80_i32_2085
  v5371
def k0_mult23 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_2112 : BitVec 32 := 128#32
  let v5470 : BitVec 32 := Scalar.muli arg9 c128_i32_2112
  let c96_i32_2113 : BitVec 32 := 96#32
  let v5471 : BitVec 32 := Scalar.addi v5470 c96_i32_2113
  v5471
def k0_mult24 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_2140 : BitVec 32 := 128#32
  let v5570 : BitVec 32 := Scalar.muli arg9 c128_i32_2140
  let c112_i32_2141 : BitVec 32 := 112#32
  let v5571 : BitVec 32 := Scalar.addi v5570 c112_i32_2141
  v5571
def k0_off28 (k0_t1 : Fin k0_t1_loop.trips) : Fin 3 → Nat :=
  let c12_2168 : Index := 12#32
  let c0_i32_1448 : BitVec 32 := 0#32
  let c1_i32_1449 : BitVec 32 := 1#32
  let arg9 : BitVec 32 := Scf.iv c0_i32_1448 c1_i32_1449 k0_t1
  let v5670 : Index := Scalar.indexCast arg9
  let c0_2169 : Index := 0#32
  ![12, v5670.toNat, 0]
def k0_off29 (k0_t1 : Fin k0_t1_loop.trips) : Fin 3 → Nat :=
  let c13_2170 : Index := 13#32
  let c0_i32_1448 : BitVec 32 := 0#32
  let c1_i32_1449 : BitVec 32 := 1#32
  let arg9 : BitVec 32 := Scf.iv c0_i32_1448 c1_i32_1449 k0_t1
  let v5676 : Index := Scalar.indexCast arg9
  let c0_2171 : Index := 0#32
  ![13, v5676.toNat, 0]
def k0_off30 (k0_t1 : Fin k0_t1_loop.trips) : Fin 3 → Nat :=
  let c14_2172 : Index := 14#32
  let c0_i32_1448 : BitVec 32 := 0#32
  let c1_i32_1449 : BitVec 32 := 1#32
  let arg9 : BitVec 32 := Scf.iv c0_i32_1448 c1_i32_1449 k0_t1
  let v5682 : Index := Scalar.indexCast arg9
  let c0_2173 : Index := 0#32
  ![14, v5682.toNat, 0]
def k0_off31 (k0_t1 : Fin k0_t1_loop.trips) : Fin 3 → Nat :=
  let c15_2174 : Index := 15#32
  let c0_i32_1448 : BitVec 32 := 0#32
  let c1_i32_1449 : BitVec 32 := 1#32
  let arg9 : BitVec 32 := Scf.iv c0_i32_1448 c1_i32_1449 k0_t1
  let v5688 : Index := Scalar.indexCast arg9
  let c0_2175 : Index := 0#32
  ![15, v5688.toNat, 0]
def k0_mult25 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_2184 : BitVec 32 := 128#32
  let v5714 : BitVec 32 := Scalar.muli arg9 c128_i32_2184
  let c0_i32_2185 : BitVec 32 := 0#32
  let v5715 : BitVec 32 := Scalar.addi v5714 c0_i32_2185
  v5715
def k0_off32 (k0_t1 : Fin k0_t1_loop.trips) (c0_i32_2185 : BitVec 32) : Fin 2 → Nat :=
  let c0_i32_1448 : BitVec 32 := 0#32
  let c1_i32_1449 : BitVec 32 := 1#32
  let arg9 : BitVec 32 := Scf.iv c0_i32_1448 c1_i32_1449 k0_t1
  let c128_i32_2184 : BitVec 32 := 128#32
  let v5714 : BitVec 32 := Scalar.muli arg9 c128_i32_2184
  let v5715 : BitVec 32 := Scalar.addi v5714 c0_i32_2185
  let v5716 : BitVec 32 := v5715
  let v5717 : Index := Scalar.indexCast v5716
  let c192_2186 : Index := 192#32
  ![v5717.toNat, 192]
def k0_off33 (k0_t1 : Fin k0_t1_loop.trips) (c0_i32_2185 : BitVec 32) : Fin 2 → Nat :=
  let c0_i32_1448 : BitVec 32 := 0#32
  let c1_i32_1449 : BitVec 32 := 1#32
  let arg9 : BitVec 32 := Scf.iv c0_i32_1448 c1_i32_1449 k0_t1
  let c128_i32_2184 : BitVec 32 := 128#32
  let v5714 : BitVec 32 := Scalar.muli arg9 c128_i32_2184
  let v5715 : BitVec 32 := Scalar.addi v5714 c0_i32_2185
  let v5716 : BitVec 32 := v5715
  let v5744 : Index := Scalar.indexCast v5716
  let c1536_2193 : Index := 1536#32
  ![v5744.toNat, 1536]
def k0_off34 (k0_t1 : Fin k0_t1_loop.trips) (c0_i32_2185 : BitVec 32) : Fin 2 → Nat :=
  let c0_i32_1448 : BitVec 32 := 0#32
  let c1_i32_1449 : BitVec 32 := 1#32
  let arg9 : BitVec 32 := Scf.iv c0_i32_1448 c1_i32_1449 k0_t1
  let c128_i32_2184 : BitVec 32 := 128#32
  let v5714 : BitVec 32 := Scalar.muli arg9 c128_i32_2184
  let v5715 : BitVec 32 := Scalar.addi v5714 c0_i32_2185
  let v5716 : BitVec 32 := v5715
  let v5766 : Index := Scalar.indexCast v5716
  let c1664_2199 : Index := 1664#32
  ![v5766.toNat, 1664]
def k0_off35 (k0_t1 : Fin k0_t1_loop.trips) (c0_i32_2185 : BitVec 32) : Fin 2 → Nat :=
  let c0_i32_1448 : BitVec 32 := 0#32
  let c1_i32_1449 : BitVec 32 := 1#32
  let arg9 : BitVec 32 := Scf.iv c0_i32_1448 c1_i32_1449 k0_t1
  let c128_i32_2184 : BitVec 32 := 128#32
  let v5714 : BitVec 32 := Scalar.muli arg9 c128_i32_2184
  let v5715 : BitVec 32 := Scalar.addi v5714 c0_i32_2185
  let v5716 : BitVec 32 := v5715
  let v5788 : Index := Scalar.indexCast v5716
  let c1792_2205 : Index := 1792#32
  ![v5788.toNat, 1792]
def k0_off36 (k0_t1 : Fin k0_t1_loop.trips) (c0_i32_2185 : BitVec 32) : Fin 2 → Nat :=
  let c0_i32_1448 : BitVec 32 := 0#32
  let c1_i32_1449 : BitVec 32 := 1#32
  let arg9 : BitVec 32 := Scf.iv c0_i32_1448 c1_i32_1449 k0_t1
  let c128_i32_2184 : BitVec 32 := 128#32
  let v5714 : BitVec 32 := Scalar.muli arg9 c128_i32_2184
  let v5715 : BitVec 32 := Scalar.addi v5714 c0_i32_2185
  let v5716 : BitVec 32 := v5715
  let v5810 : Index := Scalar.indexCast v5716
  let c1920_2211 : Index := 1920#32
  ![v5810.toNat, 1920]
def k0_mult26 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_2212 : BitVec 32 := 128#32
  let v5814 : BitVec 32 := Scalar.muli arg9 c128_i32_2212
  let c16_i32_2213 : BitVec 32 := 16#32
  let v5815 : BitVec 32 := Scalar.addi v5814 c16_i32_2213
  v5815
def k0_mult27 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_2240 : BitVec 32 := 128#32
  let v5914 : BitVec 32 := Scalar.muli arg9 c128_i32_2240
  let c32_i32_2241 : BitVec 32 := 32#32
  let v5915 : BitVec 32 := Scalar.addi v5914 c32_i32_2241
  v5915
def k0_mult28 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_2268 : BitVec 32 := 128#32
  let v6014 : BitVec 32 := Scalar.muli arg9 c128_i32_2268
  let c48_i32_2269 : BitVec 32 := 48#32
  let v6015 : BitVec 32 := Scalar.addi v6014 c48_i32_2269
  v6015
def k0_mult29 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_2296 : BitVec 32 := 128#32
  let v6114 : BitVec 32 := Scalar.muli arg9 c128_i32_2296
  let c64_i32_2297 : BitVec 32 := 64#32
  let v6115 : BitVec 32 := Scalar.addi v6114 c64_i32_2297
  v6115
def k0_mult30 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_2324 : BitVec 32 := 128#32
  let v6214 : BitVec 32 := Scalar.muli arg9 c128_i32_2324
  let c80_i32_2325 : BitVec 32 := 80#32
  let v6215 : BitVec 32 := Scalar.addi v6214 c80_i32_2325
  v6215
def k0_mult31 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_2352 : BitVec 32 := 128#32
  let v6314 : BitVec 32 := Scalar.muli arg9 c128_i32_2352
  let c96_i32_2353 : BitVec 32 := 96#32
  let v6315 : BitVec 32 := Scalar.addi v6314 c96_i32_2353
  v6315
def k0_mult32 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_2380 : BitVec 32 := 128#32
  let v6414 : BitVec 32 := Scalar.muli arg9 c128_i32_2380
  let c112_i32_2381 : BitVec 32 := 112#32
  let v6415 : BitVec 32 := Scalar.addi v6414 c112_i32_2381
  v6415
def k0_off37 (k0_t1 : Fin k0_t1_loop.trips) : Fin 3 → Nat :=
  let c16_2408 : Index := 16#32
  let c0_i32_1448 : BitVec 32 := 0#32
  let c1_i32_1449 : BitVec 32 := 1#32
  let arg9 : BitVec 32 := Scf.iv c0_i32_1448 c1_i32_1449 k0_t1
  let v6514 : Index := Scalar.indexCast arg9
  let c0_2409 : Index := 0#32
  ![16, v6514.toNat, 0]
def k0_off38 (k0_t1 : Fin k0_t1_loop.trips) : Fin 3 → Nat :=
  let c17_2410 : Index := 17#32
  let c0_i32_1448 : BitVec 32 := 0#32
  let c1_i32_1449 : BitVec 32 := 1#32
  let arg9 : BitVec 32 := Scf.iv c0_i32_1448 c1_i32_1449 k0_t1
  let v6520 : Index := Scalar.indexCast arg9
  let c0_2411 : Index := 0#32
  ![17, v6520.toNat, 0]
def k0_off39 (k0_t1 : Fin k0_t1_loop.trips) : Fin 3 → Nat :=
  let c18_2412 : Index := 18#32
  let c0_i32_1448 : BitVec 32 := 0#32
  let c1_i32_1449 : BitVec 32 := 1#32
  let arg9 : BitVec 32 := Scf.iv c0_i32_1448 c1_i32_1449 k0_t1
  let v6526 : Index := Scalar.indexCast arg9
  let c0_2413 : Index := 0#32
  ![18, v6526.toNat, 0]
def k0_off40 (k0_t1 : Fin k0_t1_loop.trips) : Fin 3 → Nat :=
  let c19_2414 : Index := 19#32
  let c0_i32_1448 : BitVec 32 := 0#32
  let c1_i32_1449 : BitVec 32 := 1#32
  let arg9 : BitVec 32 := Scf.iv c0_i32_1448 c1_i32_1449 k0_t1
  let v6532 : Index := Scalar.indexCast arg9
  let c0_2415 : Index := 0#32
  ![19, v6532.toNat, 0]
def k0_mult33 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_2424 : BitVec 32 := 128#32
  let v6558 : BitVec 32 := Scalar.muli arg9 c128_i32_2424
  let c0_i32_2425 : BitVec 32 := 0#32
  let v6559 : BitVec 32 := Scalar.addi v6558 c0_i32_2425
  v6559
def k0_off41 (k0_t1 : Fin k0_t1_loop.trips) (c0_i32_2425 : BitVec 32) : Fin 2 → Nat :=
  let c0_i32_1448 : BitVec 32 := 0#32
  let c1_i32_1449 : BitVec 32 := 1#32
  let arg9 : BitVec 32 := Scf.iv c0_i32_1448 c1_i32_1449 k0_t1
  let c128_i32_2424 : BitVec 32 := 128#32
  let v6558 : BitVec 32 := Scalar.muli arg9 c128_i32_2424
  let v6559 : BitVec 32 := Scalar.addi v6558 c0_i32_2425
  let v6560 : BitVec 32 := v6559
  let v6561 : Index := Scalar.indexCast v6560
  let c256_2426 : Index := 256#32
  ![v6561.toNat, 256]
def k0_off42 (k0_t1 : Fin k0_t1_loop.trips) (c0_i32_2425 : BitVec 32) : Fin 2 → Nat :=
  let c0_i32_1448 : BitVec 32 := 0#32
  let c1_i32_1449 : BitVec 32 := 1#32
  let arg9 : BitVec 32 := Scf.iv c0_i32_1448 c1_i32_1449 k0_t1
  let c128_i32_2424 : BitVec 32 := 128#32
  let v6558 : BitVec 32 := Scalar.muli arg9 c128_i32_2424
  let v6559 : BitVec 32 := Scalar.addi v6558 c0_i32_2425
  let v6560 : BitVec 32 := v6559
  let v6588 : Index := Scalar.indexCast v6560
  let c2048_2433 : Index := 2048#32
  ![v6588.toNat, 2048]
def k0_off43 (k0_t1 : Fin k0_t1_loop.trips) (c0_i32_2425 : BitVec 32) : Fin 2 → Nat :=
  let c0_i32_1448 : BitVec 32 := 0#32
  let c1_i32_1449 : BitVec 32 := 1#32
  let arg9 : BitVec 32 := Scf.iv c0_i32_1448 c1_i32_1449 k0_t1
  let c128_i32_2424 : BitVec 32 := 128#32
  let v6558 : BitVec 32 := Scalar.muli arg9 c128_i32_2424
  let v6559 : BitVec 32 := Scalar.addi v6558 c0_i32_2425
  let v6560 : BitVec 32 := v6559
  let v6610 : Index := Scalar.indexCast v6560
  let c2176_2439 : Index := 2176#32
  ![v6610.toNat, 2176]
def k0_off44 (k0_t1 : Fin k0_t1_loop.trips) (c0_i32_2425 : BitVec 32) : Fin 2 → Nat :=
  let c0_i32_1448 : BitVec 32 := 0#32
  let c1_i32_1449 : BitVec 32 := 1#32
  let arg9 : BitVec 32 := Scf.iv c0_i32_1448 c1_i32_1449 k0_t1
  let c128_i32_2424 : BitVec 32 := 128#32
  let v6558 : BitVec 32 := Scalar.muli arg9 c128_i32_2424
  let v6559 : BitVec 32 := Scalar.addi v6558 c0_i32_2425
  let v6560 : BitVec 32 := v6559
  let v6632 : Index := Scalar.indexCast v6560
  let c2304_2445 : Index := 2304#32
  ![v6632.toNat, 2304]
def k0_off45 (k0_t1 : Fin k0_t1_loop.trips) (c0_i32_2425 : BitVec 32) : Fin 2 → Nat :=
  let c0_i32_1448 : BitVec 32 := 0#32
  let c1_i32_1449 : BitVec 32 := 1#32
  let arg9 : BitVec 32 := Scf.iv c0_i32_1448 c1_i32_1449 k0_t1
  let c128_i32_2424 : BitVec 32 := 128#32
  let v6558 : BitVec 32 := Scalar.muli arg9 c128_i32_2424
  let v6559 : BitVec 32 := Scalar.addi v6558 c0_i32_2425
  let v6560 : BitVec 32 := v6559
  let v6654 : Index := Scalar.indexCast v6560
  let c2432_2451 : Index := 2432#32
  ![v6654.toNat, 2432]
def k0_mult34 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_2452 : BitVec 32 := 128#32
  let v6658 : BitVec 32 := Scalar.muli arg9 c128_i32_2452
  let c16_i32_2453 : BitVec 32 := 16#32
  let v6659 : BitVec 32 := Scalar.addi v6658 c16_i32_2453
  v6659
def k0_mult35 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_2480 : BitVec 32 := 128#32
  let v6758 : BitVec 32 := Scalar.muli arg9 c128_i32_2480
  let c32_i32_2481 : BitVec 32 := 32#32
  let v6759 : BitVec 32 := Scalar.addi v6758 c32_i32_2481
  v6759
def k0_mult36 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_2508 : BitVec 32 := 128#32
  let v6858 : BitVec 32 := Scalar.muli arg9 c128_i32_2508
  let c48_i32_2509 : BitVec 32 := 48#32
  let v6859 : BitVec 32 := Scalar.addi v6858 c48_i32_2509
  v6859
def k0_mult37 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_2536 : BitVec 32 := 128#32
  let v6958 : BitVec 32 := Scalar.muli arg9 c128_i32_2536
  let c64_i32_2537 : BitVec 32 := 64#32
  let v6959 : BitVec 32 := Scalar.addi v6958 c64_i32_2537
  v6959
def k0_mult38 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_2564 : BitVec 32 := 128#32
  let v7058 : BitVec 32 := Scalar.muli arg9 c128_i32_2564
  let c80_i32_2565 : BitVec 32 := 80#32
  let v7059 : BitVec 32 := Scalar.addi v7058 c80_i32_2565
  v7059
def k0_mult39 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_2592 : BitVec 32 := 128#32
  let v7158 : BitVec 32 := Scalar.muli arg9 c128_i32_2592
  let c96_i32_2593 : BitVec 32 := 96#32
  let v7159 : BitVec 32 := Scalar.addi v7158 c96_i32_2593
  v7159
def k0_mult40 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_2620 : BitVec 32 := 128#32
  let v7258 : BitVec 32 := Scalar.muli arg9 c128_i32_2620
  let c112_i32_2621 : BitVec 32 := 112#32
  let v7259 : BitVec 32 := Scalar.addi v7258 c112_i32_2621
  v7259
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7168x320 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S56x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S56x320 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2560 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
abbrev S16x1024x7168 : Shape := ⟨3, ![16, 1024, 7168]⟩
abbrev S7168x320 : Shape := ⟨2, ![7168, 320]⟩
abbrev S56x2560 : Shape := ⟨2, ![56, 2560]⟩
abbrev S56x320 : Shape := ⟨2, ![56, 320]⟩
abbrev S16384x7168 : Shape := ⟨2, ![16384, 7168]⟩
abbrev S16384x2560 : Shape := ⟨2, ![16384, 2560]⟩
abbrev S256x7168 : Shape := ⟨2, ![256, 7168]⟩
abbrev S256x2560 : Shape := ⟨2, ![256, 2560]⟩
abbrev S7168x2560 : Shape := ⟨2, ![7168, 2560]⟩
abbrev S20x56x128 : Shape := ⟨3, ![20, 56, 128]⟩
abbrev S20x56x2x128 : Shape := ⟨4, ![20, 56, 2, 128]⟩
abbrev S20x56x1x128 : Shape := ⟨4, ![20, 56, 1, 128]⟩
abbrev S56x128 : Shape := ⟨2, ![56, 128]⟩
abbrev S1x56x128 : Shape := ⟨3, ![1, 56, 128]⟩
abbrev S1x56x2x128 : Shape := ⟨4, ![1, 56, 2, 128]⟩
abbrev S1x56x1x128 : Shape := ⟨4, ![1, 56, 1, 128]⟩
abbrev S8x128 : Shape := ⟨2, ![8, 128]⟩
abbrev S8x64 : Shape := ⟨2, ![8, 64]⟩
abbrev S8x128x1 : Shape := ⟨3, ![8, 128, 1]⟩
abbrev S1x8x128 : Shape := ⟨3, ![1, 8, 128]⟩
abbrev S1x1x128 : Shape := ⟨3, ![1, 1, 128]⟩
abbrev S1x128 : Shape := ⟨2, ![1, 128]⟩
abbrev S16x128 : Shape := ⟨2, ![16, 128]⟩
abbrev S1x1x2x128 : Shape := ⟨4, ![1, 1, 2, 128]⟩
abbrev S1x1x1x128 : Shape := ⟨4, ![1, 1, 1, 128]⟩
abbrev S16x64 : Shape := ⟨2, ![16, 64]⟩
abbrev S7168x256 : Shape := ⟨2, ![7168, 256]⟩
abbrev S256x256 : Shape := ⟨2, ![256, 256]⟩
abbrev S16x1024x2560 : Shape := ⟨3, ![16, 1024, 2560]⟩

abbrev nBuf : Space → Nat
  | .hbm => 7
  | .vmem => 10
  | .smem => 0
  | _ => 0

abbrev bufTy : (tb : Table) → Fin (tcTables nBuf tb) → BufTy
  | .hbm, ⟨0, _⟩ => ⟨S16x1024x7168, .bf16⟩
  | .hbm, ⟨1, _⟩ => ⟨S7168x320, .i32⟩
  | .hbm, ⟨2, _⟩ => ⟨S56x2560, .bf16⟩
  | .hbm, ⟨3, _⟩ => ⟨S56x320, .i32⟩
  | .hbm, ⟨4, _⟩ => ⟨S16384x7168, .bf16⟩
  | .hbm, ⟨5, _⟩ => ⟨S16384x2560, .bf16⟩
  | .hbm, ⟨6, _⟩ => ⟨S16x1024x2560, .bf16⟩
  | .local _ .vmem, ⟨0, _⟩ => ⟨S256x7168, .bf16⟩
  | .local _ .vmem, ⟨1, _⟩ => ⟨S256x7168, .bf16⟩
  | .local _ .vmem, ⟨2, _⟩ => ⟨S7168x320, .i32⟩
  | .local _ .vmem, ⟨3, _⟩ => ⟨S56x2560, .bf16⟩
  | .local _ .vmem, ⟨4, _⟩ => ⟨S56x320, .i32⟩
  | .local _ .vmem, ⟨5, _⟩ => ⟨S256x2560, .bf16⟩
  | .local _ .vmem, ⟨6, _⟩ => ⟨S256x2560, .bf16⟩
  | .local _ .vmem, ⟨7, _⟩ => ⟨S7168x2560, .bf16⟩
  | .local _ .vmem, ⟨8, _⟩ => ⟨S20x56x2x128, .bf16⟩
  | .local _ .vmem, ⟨9, _⟩ => ⟨S20x56x128, .i32⟩
  | _, _ => ⟨S16x1024x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_1448 : BitVec 32 := 0#32
  let c56_i32 : BitVec 32 := 56#32
  let v3137 : BitVec 32 := Scalar.addi c0_i32_1448 c56_i32
  let c1_i32_1449 : BitVec 32 := 1#32
  ⟨c0_i32_1448, v3137, c1_i32_1449⟩
def k0_off1 (k0_t1 : Fin k0_t1_loop.trips) : Fin 3 → Nat :=
  let c0_1451 : Index := 0#32
  let c0_i32_1448 : BitVec 32 := 0#32
  let c1_i32_1449 : BitVec 32 := 1#32
  let arg9 : BitVec 32 := Scf.iv c0_i32_1448 c1_i32_1449 k0_t1
  let v3138 : Index := Scalar.indexCast arg9
  let c0_1452 : Index := 0#32
  ![0, v3138.toNat, 0]
def k0_off2 (k0_t1 : Fin k0_t1_loop.trips) : Fin 3 → Nat :=
  let c1_1453 : Index := 1#32
  let c0_i32_1448 : BitVec 32 := 0#32
  let c1_i32_1449 : BitVec 32 := 1#32
  let arg9 : BitVec 32 := Scf.iv c0_i32_1448 c1_i32_1449 k0_t1
  let v3144 : Index := Scalar.indexCast arg9
  let c0_1454 : Index := 0#32
  ![1, v3144.toNat, 0]
def k0_off3 (k0_t1 : Fin k0_t1_loop.trips) : Fin 3 → Nat :=
  let c2_1455 : Index := 2#32
  let c0_i32_1448 : BitVec 32 := 0#32
  let c1_i32_1449 : BitVec 32 := 1#32
  let arg9 : BitVec 32 := Scf.iv c0_i32_1448 c1_i32_1449 k0_t1
  let v3150 : Index := Scalar.indexCast arg9
  let c0_1456 : Index := 0#32
  ![2, v3150.toNat, 0]
def k0_off4 (k0_t1 : Fin k0_t1_loop.trips) : Fin 3 → Nat :=
  let c3_1457 : Index := 3#32
  let c0_i32_1448 : BitVec 32 := 0#32
  let c1_i32_1449 : BitVec 32 := 1#32
  let arg9 : BitVec 32 := Scf.iv c0_i32_1448 c1_i32_1449 k0_t1
  let v3156 : Index := Scalar.indexCast arg9
  let c0_1458 : Index := 0#32
  ![3, v3156.toNat, 0]
def k0_off5 (k0_t1 : Fin k0_t1_loop.trips) : Fin 4 → Nat :=
  let c0_1459 : Index := 0#32
  let c0_i32_1448 : BitVec 32 := 0#32
  let c1_i32_1449 : BitVec 32 := 1#32
  let arg9 : BitVec 32 := Scf.iv c0_i32_1448 c1_i32_1449 k0_t1
  let v3162 : Index := Scalar.indexCast arg9
  let c0_1460 : Index := 0#32
  ![0, v3162.toNat, 0, 0]
def k0_off6 (k0_t1 : Fin k0_t1_loop.trips) : Fin 4 → Nat :=
  let c1_1461 : Index := 1#32
  let c0_i32_1448 : BitVec 32 := 0#32
  let c1_i32_1449 : BitVec 32 := 1#32
  let arg9 : BitVec 32 := Scf.iv c0_i32_1448 c1_i32_1449 k0_t1
  let v3167 : Index := Scalar.indexCast arg9
  let c0_1462 : Index := 0#32
  ![1, v3167.toNat, 0, 0]
def k0_off7 (k0_t1 : Fin k0_t1_loop.trips) : Fin 4 → Nat :=
  let c2_1463 : Index := 2#32
  let c0_i32_1448 : BitVec 32 := 0#32
  let c1_i32_1449 : BitVec 32 := 1#32
  let arg9 : BitVec 32 := Scf.iv c0_i32_1448 c1_i32_1449 k0_t1
  let v3172 : Index := Scalar.indexCast arg9
  let c0_1464 : Index := 0#32
  ![2, v3172.toNat, 0, 0]
def k0_off8 (k0_t1 : Fin k0_t1_loop.trips) : Fin 4 → Nat :=
  let c3_1465 : Index := 3#32
  let c0_i32_1448 : BitVec 32 := 0#32
  let c1_i32_1449 : BitVec 32 := 1#32
  let arg9 : BitVec 32 := Scf.iv c0_i32_1448 c1_i32_1449 k0_t1
  let v3177 : Index := Scalar.indexCast arg9
  let c0_1466 : Index := 0#32
  ![3, v3177.toNat, 0, 0]
def k0_mult1 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_1467 : BitVec 32 := 128#32
  let v3182 : BitVec 32 := Scalar.muli arg9 c128_i32_1467
  let c0_i32_1468 : BitVec 32 := 0#32
  let v3183 : BitVec 32 := Scalar.addi v3182 c0_i32_1468
  v3183
def k0_off9 (k0_t1 : Fin k0_t1_loop.trips) (c0_i32_1468 : BitVec 32) : Fin 2 → Nat :=
  let c0_i32_1448 : BitVec 32 := 0#32
  let c1_i32_1449 : BitVec 32 := 1#32
  let arg9 : BitVec 32 := Scf.iv c0_i32_1448 c1_i32_1449 k0_t1
  let c128_i32_1467 : BitVec 32 := 128#32
  let v3182 : BitVec 32 := Scalar.muli arg9 c128_i32_1467
  let v3183 : BitVec 32 := Scalar.addi v3182 c0_i32_1468
  let v3184 : BitVec 32 := v3183
  let v3185 : Index := Scalar.indexCast v3184
  let c0_1469 : Index := 0#32
  ![v3185.toNat, 0]
def k0_off10 (k0_t1 : Fin k0_t1_loop.trips) (c0_i32_1468 : BitVec 32) : Fin 2 → Nat :=
  let c0_i32_1448 : BitVec 32 := 0#32
  let c1_i32_1449 : BitVec 32 := 1#32
  let arg9 : BitVec 32 := Scf.iv c0_i32_1448 c1_i32_1449 k0_t1
  let c128_i32_1467 : BitVec 32 := 128#32
  let v3182 : BitVec 32 := Scalar.muli arg9 c128_i32_1467
  let v3183 : BitVec 32 := Scalar.addi v3182 c0_i32_1468
  let v3184 : BitVec 32 := v3183
  let v3212 : Index := Scalar.indexCast v3184
  let c0_1476 : Index := 0#32
  ![v3212.toNat, 0]
def k0_off11 (k0_t1 : Fin k0_t1_loop.trips) (c0_i32_1468 : BitVec 32) : Fin 2 → Nat :=
  let c0_i32_1448 : BitVec 32 := 0#32
  let c1_i32_1449 : BitVec 32 := 1#32
  let arg9 : BitVec 32 := Scf.iv c0_i32_1448 c1_i32_1449 k0_t1
  let c128_i32_1467 : BitVec 32 := 128#32
  let v3182 : BitVec 32 := Scalar.muli arg9 c128_i32_1467
  let v3183 : BitVec 32 := Scalar.addi v3182 c0_i32_1468
  let v3184 : BitVec 32 := v3183
  let v3234 : Index := Scalar.indexCast v3184
  let c128_1482 : Index := 128#32
  ![v3234.toNat, 128]
def k0_off12 (k0_t1 : Fin k0_t1_loop.trips) (c0_i32_1468 : BitVec 32) : Fin 2 → Nat :=
  let c0_i32_1448 : BitVec 32 := 0#32
  let c1_i32_1449 : BitVec 32 := 1#32
  let arg9 : BitVec 32 := Scf.iv c0_i32_1448 c1_i32_1449 k0_t1
  let c128_i32_1467 : BitVec 32 := 128#32
  let v3182 : BitVec 32 := Scalar.muli arg9 c128_i32_1467
  let v3183 : BitVec 32 := Scalar.addi v3182 c0_i32_1468
  let v3184 : BitVec 32 := v3183
  let v3256 : Index := Scalar.indexCast v3184
  let c256_1488 : Index := 256#32
  ![v3256.toNat, 256]
def k0_off13 (k0_t1 : Fin k0_t1_loop.trips) (c0_i32_1468 : BitVec 32) : Fin 2 → Nat :=
  let c0_i32_1448 : BitVec 32 := 0#32
  let c1_i32_1449 : BitVec 32 := 1#32
  let arg9 : BitVec 32 := Scf.iv c0_i32_1448 c1_i32_1449 k0_t1
  let c128_i32_1467 : BitVec 32 := 128#32
  let v3182 : BitVec 32 := Scalar.muli arg9 c128_i32_1467
  let v3183 : BitVec 32 := Scalar.addi v3182 c0_i32_1468
  let v3184 : BitVec 32 := v3183
  let v3278 : Index := Scalar.indexCast v3184
  let c384_1494 : Index := 384#32
  ![v3278.toNat, 384]
def k0_mult2 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_1495 : BitVec 32 := 128#32
  let v3282 : BitVec 32 := Scalar.muli arg9 c128_i32_1495
  let c16_i32_1496 : BitVec 32 := 16#32
  let v3283 : BitVec 32 := Scalar.addi v3282 c16_i32_1496
  v3283
def k0_mult3 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_1523 : BitVec 32 := 128#32
  let v3382 : BitVec 32 := Scalar.muli arg9 c128_i32_1523
  let c32_i32_1524 : BitVec 32 := 32#32
  let v3383 : BitVec 32 := Scalar.addi v3382 c32_i32_1524
  v3383
def k0_mult4 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_1551 : BitVec 32 := 128#32
  let v3482 : BitVec 32 := Scalar.muli arg9 c128_i32_1551
  let c48_i32_1552 : BitVec 32 := 48#32
  let v3483 : BitVec 32 := Scalar.addi v3482 c48_i32_1552
  v3483
def k0_mult5 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_1579 : BitVec 32 := 128#32
  let v3582 : BitVec 32 := Scalar.muli arg9 c128_i32_1579
  let c64_i32_1580 : BitVec 32 := 64#32
  let v3583 : BitVec 32 := Scalar.addi v3582 c64_i32_1580
  v3583
def k0_mult6 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_1607 : BitVec 32 := 128#32
  let v3682 : BitVec 32 := Scalar.muli arg9 c128_i32_1607
  let c80_i32 : BitVec 32 := 80#32
  let v3683 : BitVec 32 := Scalar.addi v3682 c80_i32
  v3683
def k0_mult7 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_1634 : BitVec 32 := 128#32
  let v3782 : BitVec 32 := Scalar.muli arg9 c128_i32_1634
  let c96_i32 : BitVec 32 := 96#32
  let v3783 : BitVec 32 := Scalar.addi v3782 c96_i32
  v3783
def k0_mult8 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_1661 : BitVec 32 := 128#32
  let v3882 : BitVec 32 := Scalar.muli arg9 c128_i32_1661
  let c112_i32 : BitVec 32 := 112#32
  let v3883 : BitVec 32 := Scalar.addi v3882 c112_i32
  v3883
def k0_off14 (k0_t1 : Fin k0_t1_loop.trips) : Fin 3 → Nat :=
  let c4_1688 : Index := 4#32
  let c0_i32_1448 : BitVec 32 := 0#32
  let c1_i32_1449 : BitVec 32 := 1#32
  let arg9 : BitVec 32 := Scf.iv c0_i32_1448 c1_i32_1449 k0_t1
  let v3982 : Index := Scalar.indexCast arg9
  let c0_1689 : Index := 0#32
  ![4, v3982.toNat, 0]
def k0_off15 (k0_t1 : Fin k0_t1_loop.trips) : Fin 3 → Nat :=
  let c5_1690 : Index := 5#32
  let c0_i32_1448 : BitVec 32 := 0#32
  let c1_i32_1449 : BitVec 32 := 1#32
  let arg9 : BitVec 32 := Scf.iv c0_i32_1448 c1_i32_1449 k0_t1
  let v3988 : Index := Scalar.indexCast arg9
  let c0_1691 : Index := 0#32
  ![5, v3988.toNat, 0]
def k0_off16 (k0_t1 : Fin k0_t1_loop.trips) : Fin 3 → Nat :=
  let c6_1692 : Index := 6#32
  let c0_i32_1448 : BitVec 32 := 0#32
  let c1_i32_1449 : BitVec 32 := 1#32
  let arg9 : BitVec 32 := Scf.iv c0_i32_1448 c1_i32_1449 k0_t1
  let v3994 : Index := Scalar.indexCast arg9
  let c0_1693 : Index := 0#32
  ![6, v3994.toNat, 0]
def k0_off17 (k0_t1 : Fin k0_t1_loop.trips) : Fin 3 → Nat :=
  let c7_1694 : Index := 7#32
  let c0_i32_1448 : BitVec 32 := 0#32
  let c1_i32_1449 : BitVec 32 := 1#32
  let arg9 : BitVec 32 := Scf.iv c0_i32_1448 c1_i32_1449 k0_t1
  let v4000 : Index := Scalar.indexCast arg9
  let c0_1695 : Index := 0#32
  ![7, v4000.toNat, 0]
def k0_off18 (k0_t1 : Fin k0_t1_loop.trips) : Fin 4 → Nat :=
  let c4_1696 : Index := 4#32
  let c0_i32_1448 : BitVec 32 := 0#32
  let c1_i32_1449 : BitVec 32 := 1#32
  let arg9 : BitVec 32 := Scf.iv c0_i32_1448 c1_i32_1449 k0_t1
  let v4006 : Index := Scalar.indexCast arg9
  let c0_1697 : Index := 0#32
  ![4, v4006.toNat, 0, 0]
def k0_off19 (k0_t1 : Fin k0_t1_loop.trips) : Fin 4 → Nat :=
  let c5_1698 : Index := 5#32
  let c0_i32_1448 : BitVec 32 := 0#32
  let c1_i32_1449 : BitVec 32 := 1#32
  let arg9 : BitVec 32 := Scf.iv c0_i32_1448 c1_i32_1449 k0_t1
  let v4011 : Index := Scalar.indexCast arg9
  let c0_1699 : Index := 0#32
  ![5, v4011.toNat, 0, 0]
def k0_off20 (k0_t1 : Fin k0_t1_loop.trips) : Fin 4 → Nat :=
  let c6_1700 : Index := 6#32
  let c0_i32_1448 : BitVec 32 := 0#32
  let c1_i32_1449 : BitVec 32 := 1#32
  let arg9 : BitVec 32 := Scf.iv c0_i32_1448 c1_i32_1449 k0_t1
  let v4016 : Index := Scalar.indexCast arg9
  let c0_1701 : Index := 0#32
  ![6, v4016.toNat, 0, 0]
def k0_off21 (k0_t1 : Fin k0_t1_loop.trips) : Fin 4 → Nat :=
  let c7_1702 : Index := 7#32
  let c0_i32_1448 : BitVec 32 := 0#32
  let c1_i32_1449 : BitVec 32 := 1#32
  let arg9 : BitVec 32 := Scf.iv c0_i32_1448 c1_i32_1449 k0_t1
  let v4021 : Index := Scalar.indexCast arg9
  let c0_1703 : Index := 0#32
  ![7, v4021.toNat, 0, 0]
def k0_mult9 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_1704 : BitVec 32 := 128#32
  let v4026 : BitVec 32 := Scalar.muli arg9 c128_i32_1704
  let c0_i32_1705 : BitVec 32 := 0#32
  let v4027 : BitVec 32 := Scalar.addi v4026 c0_i32_1705
  v4027
def k0_off22 (k0_t1 : Fin k0_t1_loop.trips) (c0_i32_1705 : BitVec 32) : Fin 2 → Nat :=
  let c0_i32_1448 : BitVec 32 := 0#32
  let c1_i32_1449 : BitVec 32 := 1#32
  let arg9 : BitVec 32 := Scf.iv c0_i32_1448 c1_i32_1449 k0_t1
  let c128_i32_1704 : BitVec 32 := 128#32
  let v4026 : BitVec 32 := Scalar.muli arg9 c128_i32_1704
  let v4027 : BitVec 32 := Scalar.addi v4026 c0_i32_1705
  let v4028 : BitVec 32 := v4027
  let v4029 : Index := Scalar.indexCast v4028
  let c64_1706 : Index := 64#32
  ![v4029.toNat, 64]
def k0_off23 (k0_t1 : Fin k0_t1_loop.trips) (c0_i32_1705 : BitVec 32) : Fin 2 → Nat :=
  let c0_i32_1448 : BitVec 32 := 0#32
  let c1_i32_1449 : BitVec 32 := 1#32
  let arg9 : BitVec 32 := Scf.iv c0_i32_1448 c1_i32_1449 k0_t1
  let c128_i32_1704 : BitVec 32 := 128#32
  let v4026 : BitVec 32 := Scalar.muli arg9 c128_i32_1704
  let v4027 : BitVec 32 := Scalar.addi v4026 c0_i32_1705
  let v4028 : BitVec 32 := v4027
  let v4056 : Index := Scalar.indexCast v4028
  let c512_1713 : Index := 512#32
  ![v4056.toNat, 512]
def k0_off24 (k0_t1 : Fin k0_t1_loop.trips) (c0_i32_1705 : BitVec 32) : Fin 2 → Nat :=
  let c0_i32_1448 : BitVec 32 := 0#32
  let c1_i32_1449 : BitVec 32 := 1#32
  let arg9 : BitVec 32 := Scf.iv c0_i32_1448 c1_i32_1449 k0_t1
  let c128_i32_1704 : BitVec 32 := 128#32
  let v4026 : BitVec 32 := Scalar.muli arg9 c128_i32_1704
  let v4027 : BitVec 32 := Scalar.addi v4026 c0_i32_1705
  let v4028 : BitVec 32 := v4027
  let v4078 : Index := Scalar.indexCast v4028
  let c640_1719 : Index := 640#32
  ![v4078.toNat, 640]
def k0_off25 (k0_t1 : Fin k0_t1_loop.trips) (c0_i32_1705 : BitVec 32) : Fin 2 → Nat :=
  let c0_i32_1448 : BitVec 32 := 0#32
  let c1_i32_1449 : BitVec 32 := 1#32
  let arg9 : BitVec 32 := Scf.iv c0_i32_1448 c1_i32_1449 k0_t1
  let c128_i32_1704 : BitVec 32 := 128#32
  let v4026 : BitVec 32 := Scalar.muli arg9 c128_i32_1704
  let v4027 : BitVec 32 := Scalar.addi v4026 c0_i32_1705
  let v4028 : BitVec 32 := v4027
  let v4100 : Index := Scalar.indexCast v4028
  let c768_1725 : Index := 768#32
  ![v4100.toNat, 768]
def k0_off26 (k0_t1 : Fin k0_t1_loop.trips) (c0_i32_1705 : BitVec 32) : Fin 2 → Nat :=
  let c0_i32_1448 : BitVec 32 := 0#32
  let c1_i32_1449 : BitVec 32 := 1#32
  let arg9 : BitVec 32 := Scf.iv c0_i32_1448 c1_i32_1449 k0_t1
  let c128_i32_1704 : BitVec 32 := 128#32
  let v4026 : BitVec 32 := Scalar.muli arg9 c128_i32_1704
  let v4027 : BitVec 32 := Scalar.addi v4026 c0_i32_1705
  let v4028 : BitVec 32 := v4027
  let v4122 : Index := Scalar.indexCast v4028
  let c896_1731 : Index := 896#32
  ![v4122.toNat, 896]
def k0_mult10 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_1732 : BitVec 32 := 128#32
  let v4126 : BitVec 32 := Scalar.muli arg9 c128_i32_1732
  let c16_i32_1733 : BitVec 32 := 16#32
  let v4127 : BitVec 32 := Scalar.addi v4126 c16_i32_1733
  v4127
def k0_mult11 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_1760 : BitVec 32 := 128#32
  let v4226 : BitVec 32 := Scalar.muli arg9 c128_i32_1760
  let c32_i32_1761 : BitVec 32 := 32#32
  let v4227 : BitVec 32 := Scalar.addi v4226 c32_i32_1761
  v4227
def k0_mult12 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_1788 : BitVec 32 := 128#32
  let v4326 : BitVec 32 := Scalar.muli arg9 c128_i32_1788
  let c48_i32_1789 : BitVec 32 := 48#32
  let v4327 : BitVec 32 := Scalar.addi v4326 c48_i32_1789
  v4327
def k0_mult13 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_1816 : BitVec 32 := 128#32
  let v4426 : BitVec 32 := Scalar.muli arg9 c128_i32_1816
  let c64_i32_1817 : BitVec 32 := 64#32
  let v4427 : BitVec 32 := Scalar.addi v4426 c64_i32_1817
  v4427
def k0_mult14 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_1844 : BitVec 32 := 128#32
  let v4526 : BitVec 32 := Scalar.muli arg9 c128_i32_1844
  let c80_i32_1845 : BitVec 32 := 80#32
  let v4527 : BitVec 32 := Scalar.addi v4526 c80_i32_1845
  v4527
def k0_mult15 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_1872 : BitVec 32 := 128#32
  let v4626 : BitVec 32 := Scalar.muli arg9 c128_i32_1872
  let c96_i32_1873 : BitVec 32 := 96#32
  let v4627 : BitVec 32 := Scalar.addi v4626 c96_i32_1873
  v4627
def k0_mult16 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_1900 : BitVec 32 := 128#32
  let v4726 : BitVec 32 := Scalar.muli arg9 c128_i32_1900
  let c112_i32_1901 : BitVec 32 := 112#32
  let v4727 : BitVec 32 := Scalar.addi v4726 c112_i32_1901
  v4727
def k0_off27 (k0_t1 : Fin k0_t1_loop.trips) : Fin 3 → Nat :=
  let c8_1928 : Index := 8#32
  let c0_i32_1448 : BitVec 32 := 0#32
  let c1_i32_1449 : BitVec 32 := 1#32
  let arg9 : BitVec 32 := Scf.iv c0_i32_1448 c1_i32_1449 k0_t1
  let v4826 : Index := Scalar.indexCast arg9
  let c0_1929 : Index := 0#32
  ![8, v4826.toNat, 0]
def k0_off28 (k0_t1 : Fin k0_t1_loop.trips) : Fin 3 → Nat :=
  let c9_1930 : Index := 9#32
  let c0_i32_1448 : BitVec 32 := 0#32
  let c1_i32_1449 : BitVec 32 := 1#32
  let arg9 : BitVec 32 := Scf.iv c0_i32_1448 c1_i32_1449 k0_t1
  let v4832 : Index := Scalar.indexCast arg9
  let c0_1931 : Index := 0#32
  ![9, v4832.toNat, 0]
def k0_off29 (k0_t1 : Fin k0_t1_loop.trips) : Fin 3 → Nat :=
  let c10_1932 : Index := 10#32
  let c0_i32_1448 : BitVec 32 := 0#32
  let c1_i32_1449 : BitVec 32 := 1#32
  let arg9 : BitVec 32 := Scf.iv c0_i32_1448 c1_i32_1449 k0_t1
  let v4838 : Index := Scalar.indexCast arg9
  let c0_1933 : Index := 0#32
  ![10, v4838.toNat, 0]
def k0_off30 (k0_t1 : Fin k0_t1_loop.trips) : Fin 3 → Nat :=
  let c11_1934 : Index := 11#32
  let c0_i32_1448 : BitVec 32 := 0#32
  let c1_i32_1449 : BitVec 32 := 1#32
  let arg9 : BitVec 32 := Scf.iv c0_i32_1448 c1_i32_1449 k0_t1
  let v4844 : Index := Scalar.indexCast arg9
  let c0_1935 : Index := 0#32
  ![11, v4844.toNat, 0]
def k0_off31 (k0_t1 : Fin k0_t1_loop.trips) : Fin 4 → Nat :=
  let c8_1936 : Index := 8#32
  let c0_i32_1448 : BitVec 32 := 0#32
  let c1_i32_1449 : BitVec 32 := 1#32
  let arg9 : BitVec 32 := Scf.iv c0_i32_1448 c1_i32_1449 k0_t1
  let v4850 : Index := Scalar.indexCast arg9
  let c0_1937 : Index := 0#32
  ![8, v4850.toNat, 0, 0]
def k0_off32 (k0_t1 : Fin k0_t1_loop.trips) : Fin 4 → Nat :=
  let c9_1938 : Index := 9#32
  let c0_i32_1448 : BitVec 32 := 0#32
  let c1_i32_1449 : BitVec 32 := 1#32
  let arg9 : BitVec 32 := Scf.iv c0_i32_1448 c1_i32_1449 k0_t1
  let v4855 : Index := Scalar.indexCast arg9
  let c0_1939 : Index := 0#32
  ![9, v4855.toNat, 0, 0]
def k0_off33 (k0_t1 : Fin k0_t1_loop.trips) : Fin 4 → Nat :=
  let c10_1940 : Index := 10#32
  let c0_i32_1448 : BitVec 32 := 0#32
  let c1_i32_1449 : BitVec 32 := 1#32
  let arg9 : BitVec 32 := Scf.iv c0_i32_1448 c1_i32_1449 k0_t1
  let v4860 : Index := Scalar.indexCast arg9
  let c0_1941 : Index := 0#32
  ![10, v4860.toNat, 0, 0]
def k0_off34 (k0_t1 : Fin k0_t1_loop.trips) : Fin 4 → Nat :=
  let c11_1942 : Index := 11#32
  let c0_i32_1448 : BitVec 32 := 0#32
  let c1_i32_1449 : BitVec 32 := 1#32
  let arg9 : BitVec 32 := Scf.iv c0_i32_1448 c1_i32_1449 k0_t1
  let v4865 : Index := Scalar.indexCast arg9
  let c0_1943 : Index := 0#32
  ![11, v4865.toNat, 0, 0]
def k0_mult17 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_1944 : BitVec 32 := 128#32
  let v4870 : BitVec 32 := Scalar.muli arg9 c128_i32_1944
  let c0_i32_1945 : BitVec 32 := 0#32
  let v4871 : BitVec 32 := Scalar.addi v4870 c0_i32_1945
  v4871
def k0_off35 (k0_t1 : Fin k0_t1_loop.trips) (c0_i32_1945 : BitVec 32) : Fin 2 → Nat :=
  let c0_i32_1448 : BitVec 32 := 0#32
  let c1_i32_1449 : BitVec 32 := 1#32
  let arg9 : BitVec 32 := Scf.iv c0_i32_1448 c1_i32_1449 k0_t1
  let c128_i32_1944 : BitVec 32 := 128#32
  let v4870 : BitVec 32 := Scalar.muli arg9 c128_i32_1944
  let v4871 : BitVec 32 := Scalar.addi v4870 c0_i32_1945
  let v4872 : BitVec 32 := v4871
  let v4873 : Index := Scalar.indexCast v4872
  let c128_1946 : Index := 128#32
  ![v4873.toNat, 128]
def k0_off36 (k0_t1 : Fin k0_t1_loop.trips) (c0_i32_1945 : BitVec 32) : Fin 2 → Nat :=
  let c0_i32_1448 : BitVec 32 := 0#32
  let c1_i32_1449 : BitVec 32 := 1#32
  let arg9 : BitVec 32 := Scf.iv c0_i32_1448 c1_i32_1449 k0_t1
  let c128_i32_1944 : BitVec 32 := 128#32
  let v4870 : BitVec 32 := Scalar.muli arg9 c128_i32_1944
  let v4871 : BitVec 32 := Scalar.addi v4870 c0_i32_1945
  let v4872 : BitVec 32 := v4871
  let v4900 : Index := Scalar.indexCast v4872
  let c1024_1953 : Index := 1024#32
  ![v4900.toNat, 1024]
def k0_off37 (k0_t1 : Fin k0_t1_loop.trips) (c0_i32_1945 : BitVec 32) : Fin 2 → Nat :=
  let c0_i32_1448 : BitVec 32 := 0#32
  let c1_i32_1449 : BitVec 32 := 1#32
  let arg9 : BitVec 32 := Scf.iv c0_i32_1448 c1_i32_1449 k0_t1
  let c128_i32_1944 : BitVec 32 := 128#32
  let v4870 : BitVec 32 := Scalar.muli arg9 c128_i32_1944
  let v4871 : BitVec 32 := Scalar.addi v4870 c0_i32_1945
  let v4872 : BitVec 32 := v4871
  let v4922 : Index := Scalar.indexCast v4872
  let c1152_1959 : Index := 1152#32
  ![v4922.toNat, 1152]
def k0_off38 (k0_t1 : Fin k0_t1_loop.trips) (c0_i32_1945 : BitVec 32) : Fin 2 → Nat :=
  let c0_i32_1448 : BitVec 32 := 0#32
  let c1_i32_1449 : BitVec 32 := 1#32
  let arg9 : BitVec 32 := Scf.iv c0_i32_1448 c1_i32_1449 k0_t1
  let c128_i32_1944 : BitVec 32 := 128#32
  let v4870 : BitVec 32 := Scalar.muli arg9 c128_i32_1944
  let v4871 : BitVec 32 := Scalar.addi v4870 c0_i32_1945
  let v4872 : BitVec 32 := v4871
  let v4944 : Index := Scalar.indexCast v4872
  let c1280_1965 : Index := 1280#32
  ![v4944.toNat, 1280]
def k0_off39 (k0_t1 : Fin k0_t1_loop.trips) (c0_i32_1945 : BitVec 32) : Fin 2 → Nat :=
  let c0_i32_1448 : BitVec 32 := 0#32
  let c1_i32_1449 : BitVec 32 := 1#32
  let arg9 : BitVec 32 := Scf.iv c0_i32_1448 c1_i32_1449 k0_t1
  let c128_i32_1944 : BitVec 32 := 128#32
  let v4870 : BitVec 32 := Scalar.muli arg9 c128_i32_1944
  let v4871 : BitVec 32 := Scalar.addi v4870 c0_i32_1945
  let v4872 : BitVec 32 := v4871
  let v4966 : Index := Scalar.indexCast v4872
  let c1408_1971 : Index := 1408#32
  ![v4966.toNat, 1408]
def k0_mult18 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_1972 : BitVec 32 := 128#32
  let v4970 : BitVec 32 := Scalar.muli arg9 c128_i32_1972
  let c16_i32_1973 : BitVec 32 := 16#32
  let v4971 : BitVec 32 := Scalar.addi v4970 c16_i32_1973
  v4971
def k0_mult19 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_2000 : BitVec 32 := 128#32
  let v5070 : BitVec 32 := Scalar.muli arg9 c128_i32_2000
  let c32_i32_2001 : BitVec 32 := 32#32
  let v5071 : BitVec 32 := Scalar.addi v5070 c32_i32_2001
  v5071
def k0_mult20 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_2028 : BitVec 32 := 128#32
  let v5170 : BitVec 32 := Scalar.muli arg9 c128_i32_2028
  let c48_i32_2029 : BitVec 32 := 48#32
  let v5171 : BitVec 32 := Scalar.addi v5170 c48_i32_2029
  v5171
def k0_mult21 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_2056 : BitVec 32 := 128#32
  let v5270 : BitVec 32 := Scalar.muli arg9 c128_i32_2056
  let c64_i32_2057 : BitVec 32 := 64#32
  let v5271 : BitVec 32 := Scalar.addi v5270 c64_i32_2057
  v5271
def k0_mult22 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_2084 : BitVec 32 := 128#32
  let v5370 : BitVec 32 := Scalar.muli arg9 c128_i32_2084
  let c80_i32_2085 : BitVec 32 := 80#32
  let v5371 : BitVec 32 := Scalar.addi v5370 c80_i32_2085
  v5371
def k0_mult23 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_2112 : BitVec 32 := 128#32
  let v5470 : BitVec 32 := Scalar.muli arg9 c128_i32_2112
  let c96_i32_2113 : BitVec 32 := 96#32
  let v5471 : BitVec 32 := Scalar.addi v5470 c96_i32_2113
  v5471
def k0_mult24 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_2140 : BitVec 32 := 128#32
  let v5570 : BitVec 32 := Scalar.muli arg9 c128_i32_2140
  let c112_i32_2141 : BitVec 32 := 112#32
  let v5571 : BitVec 32 := Scalar.addi v5570 c112_i32_2141
  v5571
def k0_off40 (k0_t1 : Fin k0_t1_loop.trips) : Fin 3 → Nat :=
  let c12_2168 : Index := 12#32
  let c0_i32_1448 : BitVec 32 := 0#32
  let c1_i32_1449 : BitVec 32 := 1#32
  let arg9 : BitVec 32 := Scf.iv c0_i32_1448 c1_i32_1449 k0_t1
  let v5670 : Index := Scalar.indexCast arg9
  let c0_2169 : Index := 0#32
  ![12, v5670.toNat, 0]
def k0_off41 (k0_t1 : Fin k0_t1_loop.trips) : Fin 3 → Nat :=
  let c13_2170 : Index := 13#32
  let c0_i32_1448 : BitVec 32 := 0#32
  let c1_i32_1449 : BitVec 32 := 1#32
  let arg9 : BitVec 32 := Scf.iv c0_i32_1448 c1_i32_1449 k0_t1
  let v5676 : Index := Scalar.indexCast arg9
  let c0_2171 : Index := 0#32
  ![13, v5676.toNat, 0]
def k0_off42 (k0_t1 : Fin k0_t1_loop.trips) : Fin 3 → Nat :=
  let c14_2172 : Index := 14#32
  let c0_i32_1448 : BitVec 32 := 0#32
  let c1_i32_1449 : BitVec 32 := 1#32
  let arg9 : BitVec 32 := Scf.iv c0_i32_1448 c1_i32_1449 k0_t1
  let v5682 : Index := Scalar.indexCast arg9
  let c0_2173 : Index := 0#32
  ![14, v5682.toNat, 0]
def k0_off43 (k0_t1 : Fin k0_t1_loop.trips) : Fin 3 → Nat :=
  let c15_2174 : Index := 15#32
  let c0_i32_1448 : BitVec 32 := 0#32
  let c1_i32_1449 : BitVec 32 := 1#32
  let arg9 : BitVec 32 := Scf.iv c0_i32_1448 c1_i32_1449 k0_t1
  let v5688 : Index := Scalar.indexCast arg9
  let c0_2175 : Index := 0#32
  ![15, v5688.toNat, 0]
def k0_off44 (k0_t1 : Fin k0_t1_loop.trips) : Fin 4 → Nat :=
  let c12_2176 : Index := 12#32
  let c0_i32_1448 : BitVec 32 := 0#32
  let c1_i32_1449 : BitVec 32 := 1#32
  let arg9 : BitVec 32 := Scf.iv c0_i32_1448 c1_i32_1449 k0_t1
  let v5694 : Index := Scalar.indexCast arg9
  let c0_2177 : Index := 0#32
  ![12, v5694.toNat, 0, 0]
def k0_off45 (k0_t1 : Fin k0_t1_loop.trips) : Fin 4 → Nat :=
  let c13_2178 : Index := 13#32
  let c0_i32_1448 : BitVec 32 := 0#32
  let c1_i32_1449 : BitVec 32 := 1#32
  let arg9 : BitVec 32 := Scf.iv c0_i32_1448 c1_i32_1449 k0_t1
  let v5699 : Index := Scalar.indexCast arg9
  let c0_2179 : Index := 0#32
  ![13, v5699.toNat, 0, 0]
def k0_off46 (k0_t1 : Fin k0_t1_loop.trips) : Fin 4 → Nat :=
  let c14_2180 : Index := 14#32
  let c0_i32_1448 : BitVec 32 := 0#32
  let c1_i32_1449 : BitVec 32 := 1#32
  let arg9 : BitVec 32 := Scf.iv c0_i32_1448 c1_i32_1449 k0_t1
  let v5704 : Index := Scalar.indexCast arg9
  let c0_2181 : Index := 0#32
  ![14, v5704.toNat, 0, 0]
def k0_off47 (k0_t1 : Fin k0_t1_loop.trips) : Fin 4 → Nat :=
  let c15_2182 : Index := 15#32
  let c0_i32_1448 : BitVec 32 := 0#32
  let c1_i32_1449 : BitVec 32 := 1#32
  let arg9 : BitVec 32 := Scf.iv c0_i32_1448 c1_i32_1449 k0_t1
  let v5709 : Index := Scalar.indexCast arg9
  let c0_2183 : Index := 0#32
  ![15, v5709.toNat, 0, 0]
def k0_mult25 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_2184 : BitVec 32 := 128#32
  let v5714 : BitVec 32 := Scalar.muli arg9 c128_i32_2184
  let c0_i32_2185 : BitVec 32 := 0#32
  let v5715 : BitVec 32 := Scalar.addi v5714 c0_i32_2185
  v5715
def k0_off48 (k0_t1 : Fin k0_t1_loop.trips) (c0_i32_2185 : BitVec 32) : Fin 2 → Nat :=
  let c0_i32_1448 : BitVec 32 := 0#32
  let c1_i32_1449 : BitVec 32 := 1#32
  let arg9 : BitVec 32 := Scf.iv c0_i32_1448 c1_i32_1449 k0_t1
  let c128_i32_2184 : BitVec 32 := 128#32
  let v5714 : BitVec 32 := Scalar.muli arg9 c128_i32_2184
  let v5715 : BitVec 32 := Scalar.addi v5714 c0_i32_2185
  let v5716 : BitVec 32 := v5715
  let v5717 : Index := Scalar.indexCast v5716
  let c192_2186 : Index := 192#32
  ![v5717.toNat, 192]
def k0_off49 (k0_t1 : Fin k0_t1_loop.trips) (c0_i32_2185 : BitVec 32) : Fin 2 → Nat :=
  let c0_i32_1448 : BitVec 32 := 0#32
  let c1_i32_1449 : BitVec 32 := 1#32
  let arg9 : BitVec 32 := Scf.iv c0_i32_1448 c1_i32_1449 k0_t1
  let c128_i32_2184 : BitVec 32 := 128#32
  let v5714 : BitVec 32 := Scalar.muli arg9 c128_i32_2184
  let v5715 : BitVec 32 := Scalar.addi v5714 c0_i32_2185
  let v5716 : BitVec 32 := v5715
  let v5744 : Index := Scalar.indexCast v5716
  let c1536_2193 : Index := 1536#32
  ![v5744.toNat, 1536]
def k0_off50 (k0_t1 : Fin k0_t1_loop.trips) (c0_i32_2185 : BitVec 32) : Fin 2 → Nat :=
  let c0_i32_1448 : BitVec 32 := 0#32
  let c1_i32_1449 : BitVec 32 := 1#32
  let arg9 : BitVec 32 := Scf.iv c0_i32_1448 c1_i32_1449 k0_t1
  let c128_i32_2184 : BitVec 32 := 128#32
  let v5714 : BitVec 32 := Scalar.muli arg9 c128_i32_2184
  let v5715 : BitVec 32 := Scalar.addi v5714 c0_i32_2185
  let v5716 : BitVec 32 := v5715
  let v5766 : Index := Scalar.indexCast v5716
  let c1664_2199 : Index := 1664#32
  ![v5766.toNat, 1664]
def k0_off51 (k0_t1 : Fin k0_t1_loop.trips) (c0_i32_2185 : BitVec 32) : Fin 2 → Nat :=
  let c0_i32_1448 : BitVec 32 := 0#32
  let c1_i32_1449 : BitVec 32 := 1#32
  let arg9 : BitVec 32 := Scf.iv c0_i32_1448 c1_i32_1449 k0_t1
  let c128_i32_2184 : BitVec 32 := 128#32
  let v5714 : BitVec 32 := Scalar.muli arg9 c128_i32_2184
  let v5715 : BitVec 32 := Scalar.addi v5714 c0_i32_2185
  let v5716 : BitVec 32 := v5715
  let v5788 : Index := Scalar.indexCast v5716
  let c1792_2205 : Index := 1792#32
  ![v5788.toNat, 1792]
def k0_off52 (k0_t1 : Fin k0_t1_loop.trips) (c0_i32_2185 : BitVec 32) : Fin 2 → Nat :=
  let c0_i32_1448 : BitVec 32 := 0#32
  let c1_i32_1449 : BitVec 32 := 1#32
  let arg9 : BitVec 32 := Scf.iv c0_i32_1448 c1_i32_1449 k0_t1
  let c128_i32_2184 : BitVec 32 := 128#32
  let v5714 : BitVec 32 := Scalar.muli arg9 c128_i32_2184
  let v5715 : BitVec 32 := Scalar.addi v5714 c0_i32_2185
  let v5716 : BitVec 32 := v5715
  let v5810 : Index := Scalar.indexCast v5716
  let c1920_2211 : Index := 1920#32
  ![v5810.toNat, 1920]
def k0_mult26 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_2212 : BitVec 32 := 128#32
  let v5814 : BitVec 32 := Scalar.muli arg9 c128_i32_2212
  let c16_i32_2213 : BitVec 32 := 16#32
  let v5815 : BitVec 32 := Scalar.addi v5814 c16_i32_2213
  v5815
def k0_mult27 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_2240 : BitVec 32 := 128#32
  let v5914 : BitVec 32 := Scalar.muli arg9 c128_i32_2240
  let c32_i32_2241 : BitVec 32 := 32#32
  let v5915 : BitVec 32 := Scalar.addi v5914 c32_i32_2241
  v5915
def k0_mult28 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_2268 : BitVec 32 := 128#32
  let v6014 : BitVec 32 := Scalar.muli arg9 c128_i32_2268
  let c48_i32_2269 : BitVec 32 := 48#32
  let v6015 : BitVec 32 := Scalar.addi v6014 c48_i32_2269
  v6015
def k0_mult29 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_2296 : BitVec 32 := 128#32
  let v6114 : BitVec 32 := Scalar.muli arg9 c128_i32_2296
  let c64_i32_2297 : BitVec 32 := 64#32
  let v6115 : BitVec 32 := Scalar.addi v6114 c64_i32_2297
  v6115
def k0_mult30 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_2324 : BitVec 32 := 128#32
  let v6214 : BitVec 32 := Scalar.muli arg9 c128_i32_2324
  let c80_i32_2325 : BitVec 32 := 80#32
  let v6215 : BitVec 32 := Scalar.addi v6214 c80_i32_2325
  v6215
def k0_mult31 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_2352 : BitVec 32 := 128#32
  let v6314 : BitVec 32 := Scalar.muli arg9 c128_i32_2352
  let c96_i32_2353 : BitVec 32 := 96#32
  let v6315 : BitVec 32 := Scalar.addi v6314 c96_i32_2353
  v6315
def k0_mult32 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_2380 : BitVec 32 := 128#32
  let v6414 : BitVec 32 := Scalar.muli arg9 c128_i32_2380
  let c112_i32_2381 : BitVec 32 := 112#32
  let v6415 : BitVec 32 := Scalar.addi v6414 c112_i32_2381
  v6415
def k0_off53 (k0_t1 : Fin k0_t1_loop.trips) : Fin 3 → Nat :=
  let c16_2408 : Index := 16#32
  let c0_i32_1448 : BitVec 32 := 0#32
  let c1_i32_1449 : BitVec 32 := 1#32
  let arg9 : BitVec 32 := Scf.iv c0_i32_1448 c1_i32_1449 k0_t1
  let v6514 : Index := Scalar.indexCast arg9
  let c0_2409 : Index := 0#32
  ![16, v6514.toNat, 0]
def k0_off54 (k0_t1 : Fin k0_t1_loop.trips) : Fin 3 → Nat :=
  let c17_2410 : Index := 17#32
  let c0_i32_1448 : BitVec 32 := 0#32
  let c1_i32_1449 : BitVec 32 := 1#32
  let arg9 : BitVec 32 := Scf.iv c0_i32_1448 c1_i32_1449 k0_t1
  let v6520 : Index := Scalar.indexCast arg9
  let c0_2411 : Index := 0#32
  ![17, v6520.toNat, 0]
def k0_off55 (k0_t1 : Fin k0_t1_loop.trips) : Fin 3 → Nat :=
  let c18_2412 : Index := 18#32
  let c0_i32_1448 : BitVec 32 := 0#32
  let c1_i32_1449 : BitVec 32 := 1#32
  let arg9 : BitVec 32 := Scf.iv c0_i32_1448 c1_i32_1449 k0_t1
  let v6526 : Index := Scalar.indexCast arg9
  let c0_2413 : Index := 0#32
  ![18, v6526.toNat, 0]
def k0_off56 (k0_t1 : Fin k0_t1_loop.trips) : Fin 3 → Nat :=
  let c19_2414 : Index := 19#32
  let c0_i32_1448 : BitVec 32 := 0#32
  let c1_i32_1449 : BitVec 32 := 1#32
  let arg9 : BitVec 32 := Scf.iv c0_i32_1448 c1_i32_1449 k0_t1
  let v6532 : Index := Scalar.indexCast arg9
  let c0_2415 : Index := 0#32
  ![19, v6532.toNat, 0]
def k0_off57 (k0_t1 : Fin k0_t1_loop.trips) : Fin 4 → Nat :=
  let c16_2416 : Index := 16#32
  let c0_i32_1448 : BitVec 32 := 0#32
  let c1_i32_1449 : BitVec 32 := 1#32
  let arg9 : BitVec 32 := Scf.iv c0_i32_1448 c1_i32_1449 k0_t1
  let v6538 : Index := Scalar.indexCast arg9
  let c0_2417 : Index := 0#32
  ![16, v6538.toNat, 0, 0]
def k0_off58 (k0_t1 : Fin k0_t1_loop.trips) : Fin 4 → Nat :=
  let c17_2418 : Index := 17#32
  let c0_i32_1448 : BitVec 32 := 0#32
  let c1_i32_1449 : BitVec 32 := 1#32
  let arg9 : BitVec 32 := Scf.iv c0_i32_1448 c1_i32_1449 k0_t1
  let v6543 : Index := Scalar.indexCast arg9
  let c0_2419 : Index := 0#32
  ![17, v6543.toNat, 0, 0]
def k0_off59 (k0_t1 : Fin k0_t1_loop.trips) : Fin 4 → Nat :=
  let c18_2420 : Index := 18#32
  let c0_i32_1448 : BitVec 32 := 0#32
  let c1_i32_1449 : BitVec 32 := 1#32
  let arg9 : BitVec 32 := Scf.iv c0_i32_1448 c1_i32_1449 k0_t1
  let v6548 : Index := Scalar.indexCast arg9
  let c0_2421 : Index := 0#32
  ![18, v6548.toNat, 0, 0]
def k0_off60 (k0_t1 : Fin k0_t1_loop.trips) : Fin 4 → Nat :=
  let c19_2422 : Index := 19#32
  let c0_i32_1448 : BitVec 32 := 0#32
  let c1_i32_1449 : BitVec 32 := 1#32
  let arg9 : BitVec 32 := Scf.iv c0_i32_1448 c1_i32_1449 k0_t1
  let v6553 : Index := Scalar.indexCast arg9
  let c0_2423 : Index := 0#32
  ![19, v6553.toNat, 0, 0]
def k0_mult33 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_2424 : BitVec 32 := 128#32
  let v6558 : BitVec 32 := Scalar.muli arg9 c128_i32_2424
  let c0_i32_2425 : BitVec 32 := 0#32
  let v6559 : BitVec 32 := Scalar.addi v6558 c0_i32_2425
  v6559
def k0_off61 (k0_t1 : Fin k0_t1_loop.trips) (c0_i32_2425 : BitVec 32) : Fin 2 → Nat :=
  let c0_i32_1448 : BitVec 32 := 0#32
  let c1_i32_1449 : BitVec 32 := 1#32
  let arg9 : BitVec 32 := Scf.iv c0_i32_1448 c1_i32_1449 k0_t1
  let c128_i32_2424 : BitVec 32 := 128#32
  let v6558 : BitVec 32 := Scalar.muli arg9 c128_i32_2424
  let v6559 : BitVec 32 := Scalar.addi v6558 c0_i32_2425
  let v6560 : BitVec 32 := v6559
  let v6561 : Index := Scalar.indexCast v6560
  let c256_2426 : Index := 256#32
  ![v6561.toNat, 256]
def k0_off62 (k0_t1 : Fin k0_t1_loop.trips) (c0_i32_2425 : BitVec 32) : Fin 2 → Nat :=
  let c0_i32_1448 : BitVec 32 := 0#32
  let c1_i32_1449 : BitVec 32 := 1#32
  let arg9 : BitVec 32 := Scf.iv c0_i32_1448 c1_i32_1449 k0_t1
  let c128_i32_2424 : BitVec 32 := 128#32
  let v6558 : BitVec 32 := Scalar.muli arg9 c128_i32_2424
  let v6559 : BitVec 32 := Scalar.addi v6558 c0_i32_2425
  let v6560 : BitVec 32 := v6559
  let v6588 : Index := Scalar.indexCast v6560
  let c2048_2433 : Index := 2048#32
  ![v6588.toNat, 2048]
def k0_off63 (k0_t1 : Fin k0_t1_loop.trips) (c0_i32_2425 : BitVec 32) : Fin 2 → Nat :=
  let c0_i32_1448 : BitVec 32 := 0#32
  let c1_i32_1449 : BitVec 32 := 1#32
  let arg9 : BitVec 32 := Scf.iv c0_i32_1448 c1_i32_1449 k0_t1
  let c128_i32_2424 : BitVec 32 := 128#32
  let v6558 : BitVec 32 := Scalar.muli arg9 c128_i32_2424
  let v6559 : BitVec 32 := Scalar.addi v6558 c0_i32_2425
  let v6560 : BitVec 32 := v6559
  let v6610 : Index := Scalar.indexCast v6560
  let c2176_2439 : Index := 2176#32
  ![v6610.toNat, 2176]
def k0_off64 (k0_t1 : Fin k0_t1_loop.trips) (c0_i32_2425 : BitVec 32) : Fin 2 → Nat :=
  let c0_i32_1448 : BitVec 32 := 0#32
  let c1_i32_1449 : BitVec 32 := 1#32
  let arg9 : BitVec 32 := Scf.iv c0_i32_1448 c1_i32_1449 k0_t1
  let c128_i32_2424 : BitVec 32 := 128#32
  let v6558 : BitVec 32 := Scalar.muli arg9 c128_i32_2424
  let v6559 : BitVec 32 := Scalar.addi v6558 c0_i32_2425
  let v6560 : BitVec 32 := v6559
  let v6632 : Index := Scalar.indexCast v6560
  let c2304_2445 : Index := 2304#32
  ![v6632.toNat, 2304]
def k0_off65 (k0_t1 : Fin k0_t1_loop.trips) (c0_i32_2425 : BitVec 32) : Fin 2 → Nat :=
  let c0_i32_1448 : BitVec 32 := 0#32
  let c1_i32_1449 : BitVec 32 := 1#32
  let arg9 : BitVec 32 := Scf.iv c0_i32_1448 c1_i32_1449 k0_t1
  let c128_i32_2424 : BitVec 32 := 128#32
  let v6558 : BitVec 32 := Scalar.muli arg9 c128_i32_2424
  let v6559 : BitVec 32 := Scalar.addi v6558 c0_i32_2425
  let v6560 : BitVec 32 := v6559
  let v6654 : Index := Scalar.indexCast v6560
  let c2432_2451 : Index := 2432#32
  ![v6654.toNat, 2432]
def k0_mult34 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_2452 : BitVec 32 := 128#32
  let v6658 : BitVec 32 := Scalar.muli arg9 c128_i32_2452
  let c16_i32_2453 : BitVec 32 := 16#32
  let v6659 : BitVec 32 := Scalar.addi v6658 c16_i32_2453
  v6659
def k0_mult35 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_2480 : BitVec 32 := 128#32
  let v6758 : BitVec 32 := Scalar.muli arg9 c128_i32_2480
  let c32_i32_2481 : BitVec 32 := 32#32
  let v6759 : BitVec 32 := Scalar.addi v6758 c32_i32_2481
  v6759
def k0_mult36 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_2508 : BitVec 32 := 128#32
  let v6858 : BitVec 32 := Scalar.muli arg9 c128_i32_2508
  let c48_i32_2509 : BitVec 32 := 48#32
  let v6859 : BitVec 32 := Scalar.addi v6858 c48_i32_2509
  v6859
def k0_mult37 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_2536 : BitVec 32 := 128#32
  let v6958 : BitVec 32 := Scalar.muli arg9 c128_i32_2536
  let c64_i32_2537 : BitVec 32 := 64#32
  let v6959 : BitVec 32 := Scalar.addi v6958 c64_i32_2537
  v6959
def k0_mult38 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_2564 : BitVec 32 := 128#32
  let v7058 : BitVec 32 := Scalar.muli arg9 c128_i32_2564
  let c80_i32_2565 : BitVec 32 := 80#32
  let v7059 : BitVec 32 := Scalar.addi v7058 c80_i32_2565
  v7059
def k0_mult39 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_2592 : BitVec 32 := 128#32
  let v7158 : BitVec 32 := Scalar.muli arg9 c128_i32_2592
  let c96_i32_2593 : BitVec 32 := 96#32
  let v7159 : BitVec 32 := Scalar.addi v7158 c96_i32_2593
  v7159
def k0_mult40 (k0_t1 : Fin k0_t1_loop.trips) : BitVec 32 :=
  let c0_i32_1448 : BitVec 32 := 0#32
  let c1_i32_1449 : BitVec 32 := 1#32
  let arg9 : BitVec 32 := Scf.iv c0_i32_1448 c1_i32_1449 k0_t1
  let c128_i32_2620 : BitVec 32 := 128#32
  let v7258 : BitVec 32 := Scalar.muli arg9 c128_i32_2620
  let c112_i32_2621 : BitVec 32 := 112#32
  let v7259 : BitVec 32 := Scalar.addi v7258 c112_i32_2621
  v7259
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7168x320 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S56x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S56x320 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2560 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16x1024x7168 : Shape := ⟨3, ![16, 1024, 7168]⟩
abbrev S7168x320 : Shape := ⟨2, ![7168, 320]⟩
abbrev S56x2560 : Shape := ⟨2, ![56, 2560]⟩
abbrev S56x320 : Shape := ⟨2, ![56, 320]⟩
abbrev S_ : Shape := ⟨0, ![]⟩
abbrev S56x128x320 : Shape := ⟨3, ![56, 128, 320]⟩
abbrev S56x1x320 : Shape := ⟨3, ![56, 1, 320]⟩
abbrev S16x1024x320 : Shape := ⟨3, ![16, 1024, 320]⟩
abbrev S16x1024x320x1 : Shape := ⟨4, ![16, 1024, 320, 1]⟩
abbrev S16x1024x320x8 : Shape := ⟨4, ![16, 1024, 320, 8]⟩
abbrev S16x1024x2560 : Shape := ⟨3, ![16, 1024, 2560]⟩

abbrev nBuf : Space → Nat
  | .hbm => 207
  | .vmem => 0
  | .smem => 0
  | _ => 0

abbrev hbmTy0_0 (i : Nat) : BufTy := match i % 128 with
  | 0 => ⟨S16x1024x7168, .bf16⟩
  | 1 => ⟨S7168x320, .i32⟩
  | 2 => ⟨S56x2560, .bf16⟩
  | 3 => ⟨S56x320, .i32⟩
  | 4 => ⟨S_, .i32⟩
  | 5 => ⟨S7168x320, .i32⟩
  | 6 => ⟨S7168x320, .i32⟩
  | 7 => ⟨S_, .i32⟩
  | 8 => ⟨S7168x320, .i32⟩
  | 9 => ⟨S7168x320, .i32⟩
  | 10 => ⟨S7168x320, .bf16⟩
  | 11 => ⟨S_, .i32⟩
  | 12 => ⟨S56x320, .i32⟩
  | 13 => ⟨S56x320, .i32⟩
  | 14 => ⟨S_, .i32⟩
  | 15 => ⟨S56x320, .i32⟩
  | 16 => ⟨S56x320, .i32⟩
  | 17 => ⟨S56x320, .bf16⟩
  | 18 => ⟨S56x320, .bf16⟩
  | 19 => ⟨S56x128x320, .bf16⟩
  | 20 => ⟨S56x1x320, .bf16⟩
  | 21 => ⟨S56x128x320, .bf16⟩
  | 22 => ⟨S56x128x320, .bf16⟩
  | 23 => ⟨S56x1x320, .bf16⟩
  | 24 => ⟨S56x128x320, .bf16⟩
  | 25 => ⟨S56x128x320, .bf16⟩
  | 26 => ⟨S7168x320, .bf16⟩
  | 27 => ⟨S16x1024x320, .f32⟩
  | 28 => ⟨S_, .i32⟩
  | 29 => ⟨S7168x320, .i32⟩
  | 30 => ⟨S7168x320, .i32⟩
  | 31 => ⟨S_, .i32⟩
  | 32 => ⟨S7168x320, .i32⟩
  | 33 => ⟨S7168x320, .i32⟩
  | 34 => ⟨S7168x320, .bf16⟩
  | 35 => ⟨S_, .i32⟩
  | 36 => ⟨S56x320, .i32⟩
  | 37 => ⟨S56x320, .i32⟩
  | 38 => ⟨S_, .i32⟩
  | 39 => ⟨S56x320, .i32⟩
  | 40 => ⟨S56x320, .i32⟩
  | 41 => ⟨S56x320, .bf16⟩
  | 42 => ⟨S56x320, .bf16⟩
  | 43 => ⟨S56x128x320, .bf16⟩
  | 44 => ⟨S56x1x320, .bf16⟩
  | 45 => ⟨S56x128x320, .bf16⟩
  | 46 => ⟨S56x128x320, .bf16⟩
  | 47 => ⟨S56x1x320, .bf16⟩
  | 48 => ⟨S56x128x320, .bf16⟩
  | 49 => ⟨S56x128x320, .bf16⟩
  | 50 => ⟨S7168x320, .bf16⟩
  | 51 => ⟨S16x1024x320, .f32⟩
  | 52 => ⟨S_, .i32⟩
  | 53 => ⟨S7168x320, .i32⟩
  | 54 => ⟨S7168x320, .i32⟩
  | 55 => ⟨S_, .i32⟩
  | 56 => ⟨S7168x320, .i32⟩
  | 57 => ⟨S7168x320, .i32⟩
  | 58 => ⟨S7168x320, .bf16⟩
  | 59 => ⟨S_, .i32⟩
  | 60 => ⟨S56x320, .i32⟩
  | 61 => ⟨S56x320, .i32⟩
  | 62 => ⟨S_, .i32⟩
  | 63 => ⟨S56x320, .i32⟩
  | 64 => ⟨S56x320, .i32⟩
  | 65 => ⟨S56x320, .bf16⟩
  | 66 => ⟨S56x320, .bf16⟩
  | 67 => ⟨S56x128x320, .bf16⟩
  | 68 => ⟨S56x1x320, .bf16⟩
  | 69 => ⟨S56x128x320, .bf16⟩
  | 70 => ⟨S56x128x320, .bf16⟩
  | 71 => ⟨S56x1x320, .bf16⟩
  | 72 => ⟨S56x128x320, .bf16⟩
  | 73 => ⟨S56x128x320, .bf16⟩
  | 74 => ⟨S7168x320, .bf16⟩
  | 75 => ⟨S16x1024x320, .f32⟩
  | 76 => ⟨S_, .i32⟩
  | 77 => ⟨S7168x320, .i32⟩
  | 78 => ⟨S7168x320, .i32⟩
  | 79 => ⟨S_, .i32⟩
  | 80 => ⟨S7168x320, .i32⟩
  | 81 => ⟨S7168x320, .i32⟩
  | 82 => ⟨S7168x320, .bf16⟩
  | 83 => ⟨S_, .i32⟩
  | 84 => ⟨S56x320, .i32⟩
  | 85 => ⟨S56x320, .i32⟩
  | 86 => ⟨S_, .i32⟩
  | 87 => ⟨S56x320, .i32⟩
  | 88 => ⟨S56x320, .i32⟩
  | 89 => ⟨S56x320, .bf16⟩
  | 90 => ⟨S56x320, .bf16⟩
  | 91 => ⟨S56x128x320, .bf16⟩
  | 92 => ⟨S56x1x320, .bf16⟩
  | 93 => ⟨S56x128x320, .bf16⟩
  | 94 => ⟨S56x128x320, .bf16⟩
  | 95 => ⟨S56x1x320, .bf16⟩
  | 96 => ⟨S56x128x320, .bf16⟩
  | 97 => ⟨S56x128x320, .bf16⟩
  | 98 => ⟨S7168x320, .bf16⟩
  | 99 => ⟨S16x1024x320, .f32⟩
  | 100 => ⟨S_, .i32⟩
  | 101 => ⟨S7168x320, .i32⟩
  | 102 => ⟨S7168x320, .i32⟩
  | 103 => ⟨S_, .i32⟩
  | 104 => ⟨S7168x320, .i32⟩
  | 105 => ⟨S7168x320, .i32⟩
  | 106 => ⟨S7168x320, .bf16⟩
  | 107 => ⟨S_, .i32⟩
  | 108 => ⟨S56x320, .i32⟩
  | 109 => ⟨S56x320, .i32⟩
  | 110 => ⟨S_, .i32⟩
  | 111 => ⟨S56x320, .i32⟩
  | 112 => ⟨S56x320, .i32⟩
  | 113 => ⟨S56x320, .bf16⟩
  | 114 => ⟨S56x320, .bf16⟩
  | 115 => ⟨S56x128x320, .bf16⟩
  | 116 => ⟨S56x1x320, .bf16⟩
  | 117 => ⟨S56x128x320, .bf16⟩
  | 118 => ⟨S56x128x320, .bf16⟩
  | 119 => ⟨S56x1x320, .bf16⟩
  | 120 => ⟨S56x128x320, .bf16⟩
  | 121 => ⟨S56x128x320, .bf16⟩
  | 122 => ⟨S7168x320, .bf16⟩
  | 123 => ⟨S16x1024x320, .f32⟩
  | 124 => ⟨S_, .i32⟩
  | 125 => ⟨S7168x320, .i32⟩
  | 126 => ⟨S7168x320, .i32⟩
  | 127 => ⟨S_, .i32⟩
  | _ => ⟨S16x1024x7168, .bf16⟩

abbrev hbmTy0_1 (i : Nat) : BufTy := match i % 128 with
  | 0 => ⟨S7168x320, .i32⟩
  | 1 => ⟨S7168x320, .i32⟩
  | 2 => ⟨S7168x320, .bf16⟩
  | 3 => ⟨S_, .i32⟩
  | 4 => ⟨S56x320, .i32⟩
  | 5 => ⟨S56x320, .i32⟩
  | 6 => ⟨S_, .i32⟩
  | 7 => ⟨S56x320, .i32⟩
  | 8 => ⟨S56x320, .i32⟩
  | 9 => ⟨S56x320, .bf16⟩
  | 10 => ⟨S56x320, .bf16⟩
  | 11 => ⟨S56x128x320, .bf16⟩
  | 12 => ⟨S56x1x320, .bf16⟩
  | 13 => ⟨S56x128x320, .bf16⟩
  | 14 => ⟨S56x128x320, .bf16⟩
  | 15 => ⟨S56x1x320, .bf16⟩
  | 16 => ⟨S56x128x320, .bf16⟩
  | 17 => ⟨S56x128x320, .bf16⟩
  | 18 => ⟨S7168x320, .bf16⟩
  | 19 => ⟨S16x1024x320, .f32⟩
  | 20 => ⟨S_, .i32⟩
  | 21 => ⟨S7168x320, .i32⟩
  | 22 => ⟨S7168x320, .i32⟩
  | 23 => ⟨S_, .i32⟩
  | 24 => ⟨S7168x320, .i32⟩
  | 25 => ⟨S7168x320, .i32⟩
  | 26 => ⟨S7168x320, .bf16⟩
  | 27 => ⟨S_, .i32⟩
  | 28 => ⟨S56x320, .i32⟩
  | 29 => ⟨S56x320, .i32⟩
  | 30 => ⟨S_, .i32⟩
  | 31 => ⟨S56x320, .i32⟩
  | 32 => ⟨S56x320, .i32⟩
  | 33 => ⟨S56x320, .bf16⟩
  | 34 => ⟨S56x320, .bf16⟩
  | 35 => ⟨S56x128x320, .bf16⟩
  | 36 => ⟨S56x1x320, .bf16⟩
  | 37 => ⟨S56x128x320, .bf16⟩
  | 38 => ⟨S56x128x320, .bf16⟩
  | 39 => ⟨S56x1x320, .bf16⟩
  | 40 => ⟨S56x128x320, .bf16⟩
  | 41 => ⟨S56x128x320, .bf16⟩
  | 42 => ⟨S7168x320, .bf16⟩
  | 43 => ⟨S16x1024x320, .f32⟩
  | 44 => ⟨S_, .i32⟩
  | 45 => ⟨S7168x320, .i32⟩
  | 46 => ⟨S7168x320, .i32⟩
  | 47 => ⟨S_, .i32⟩
  | 48 => ⟨S7168x320, .i32⟩
  | 49 => ⟨S7168x320, .i32⟩
  | 50 => ⟨S7168x320, .bf16⟩
  | 51 => ⟨S_, .i32⟩
  | 52 => ⟨S56x320, .i32⟩
  | 53 => ⟨S56x320, .i32⟩
  | 54 => ⟨S_, .i32⟩
  | 55 => ⟨S56x320, .i32⟩
  | 56 => ⟨S56x320, .i32⟩
  | 57 => ⟨S56x320, .bf16⟩
  | 58 => ⟨S56x320, .bf16⟩
  | 59 => ⟨S56x128x320, .bf16⟩
  | 60 => ⟨S56x1x320, .bf16⟩
  | 61 => ⟨S56x128x320, .bf16⟩
  | 62 => ⟨S56x128x320, .bf16⟩
  | 63 => ⟨S56x1x320, .bf16⟩
  | 64 => ⟨S56x128x320, .bf16⟩
  | 65 => ⟨S56x128x320, .bf16⟩
  | 66 => ⟨S7168x320, .bf16⟩
  | 67 => ⟨S16x1024x320, .f32⟩
  | 68 => ⟨S16x1024x320x1, .f32⟩
  | 69 => ⟨S16x1024x320x1, .f32⟩
  | 70 => ⟨S16x1024x320x1, .f32⟩
  | 71 => ⟨S16x1024x320x1, .f32⟩
  | 72 => ⟨S16x1024x320x1, .f32⟩
  | 73 => ⟨S16x1024x320x1, .f32⟩
  | 74 => ⟨S16x1024x320x1, .f32⟩
  | 75 => ⟨S16x1024x320x1, .f32⟩
  | 76 => ⟨S16x1024x320x8, .f32⟩
  | 77 => ⟨S16x1024x2560, .f32⟩
  | 78 => ⟨S16x1024x2560, .bf16⟩
  | _ => ⟨S16x1024x7168, .bf16⟩

abbrev hbmTy (i : Nat) : BufTy := match i / 128 with
  | 0 => hbmTy0_0 i
  | 1 => hbmTy0_1 i
  | _ => ⟨S16x1024x7168, .bf16⟩

abbrev bufTy : (tb : Table) → Fin (tcTables nBuf tb) → BufTy
  | .hbm, ⟨i, _⟩ => hbmTy i
  | _, _ => ⟨S16x1024x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_5 : Ref sig .tc := ⟨.hbm, 35, rfl⟩
abbrev main_v25 : Ref sig .tc := ⟨.hbm, 36, rfl⟩
abbrev main_v26 : Ref sig .tc := ⟨.hbm, 37, rfl⟩
abbrev main_c_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_c_7 : Ref sig .tc := ⟨.hbm, 52, rfl⟩
abbrev main_v40 : Ref sig .tc := ⟨.hbm, 53, rfl⟩
abbrev main_v41 : Ref sig .tc := ⟨.hbm, 54, rfl⟩
abbrev main_c_8 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_9 : Ref sig .tc := ⟨.hbm, 59, rfl⟩
abbrev main_v45 : Ref sig .tc := ⟨.hbm, 60, rfl⟩
abbrev main_v46 : Ref sig .tc := ⟨.hbm, 61, rfl⟩
abbrev main_c_10 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_c_11 : Ref sig .tc := ⟨.hbm, 76, rfl⟩
abbrev main_v60 : Ref sig .tc := ⟨.hbm, 77, rfl⟩
abbrev main_v61 : Ref sig .tc := ⟨.hbm, 78, rfl⟩
abbrev main_c_12 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_c_13 : Ref sig .tc := ⟨.hbm, 83, rfl⟩
abbrev main_v65 : Ref sig .tc := ⟨.hbm, 84, rfl⟩
abbrev main_v66 : Ref sig .tc := ⟨.hbm, 85, rfl⟩
abbrev main_c_14 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_c_15 : Ref sig .tc := ⟨.hbm, 100, rfl⟩
abbrev main_v80 : Ref sig .tc := ⟨.hbm, 101, rfl⟩
abbrev main_v81 : Ref sig .tc := ⟨.hbm, 102, rfl⟩
abbrev main_c_16 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_c_17 : Ref sig .tc := ⟨.hbm, 107, rfl⟩
abbrev main_v85 : Ref sig .tc := ⟨.hbm, 108, rfl⟩
abbrev main_v86 : Ref sig .tc := ⟨.hbm, 109, rfl⟩
abbrev main_c_18 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_c_19 : Ref sig .tc := ⟨.hbm, 124, rfl⟩
abbrev main_v100 : Ref sig .tc := ⟨.hbm, 125, rfl⟩
abbrev main_v101 : Ref sig .tc := ⟨.hbm, 126, rfl⟩
abbrev main_c_20 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_c_21 : Ref sig .tc := ⟨.hbm, 131, rfl⟩
abbrev main_v105 : Ref sig .tc := ⟨.hbm, 132, rfl⟩
abbrev main_v106 : Ref sig .tc := ⟨.hbm, 133, rfl⟩
abbrev main_c_22 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_c_23 : Ref sig .tc := ⟨.hbm, 148, rfl⟩
abbrev main_v120 : Ref sig .tc := ⟨.hbm, 149, rfl⟩
abbrev main_v121 : Ref sig .tc := ⟨.hbm, 150, rfl⟩
abbrev main_c_24 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_c_25 : Ref sig .tc := ⟨.hbm, 155, rfl⟩
abbrev main_v125 : Ref sig .tc := ⟨.hbm, 156, rfl⟩
abbrev main_v126 : Ref sig .tc := ⟨.hbm, 157, rfl⟩
abbrev main_c_26 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_c_27 : Ref sig .tc := ⟨.hbm, 172, rfl⟩
abbrev main_v140 : Ref sig .tc := ⟨.hbm, 173, rfl⟩
abbrev main_v141 : Ref sig .tc := ⟨.hbm, 174, rfl⟩
abbrev main_c_28 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_c_29 : Ref sig .tc := ⟨.hbm, 179, rfl⟩
abbrev main_v145 : Ref sig .tc := ⟨.hbm, 180, rfl⟩
abbrev main_v146 : Ref sig .tc := ⟨.hbm, 181, rfl⟩
abbrev main_c_30 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩

abbrev nD : Nat := 1
abbrev τ : Topo := Topo.v7x

variable {F : FTy → Type} [FloatOps F]
-- ==== Proof.Tile.lean ====
/- The parametric forms of what the kernel stores, and the lists of its stores as maps over small index lists: one trip of the
   dequantization loop stores 160 tiles of weights, and the tables of scales and zero points are 20 and 140 stores. -/
module

public import proofs.«01_k».proof.Proof.Gen.KernelIdeal.Frame.RunA

@[expose] public section

set_option maxRecDepth 16384

noncomputable section

namespace Cert.KernelIdeal.Tile

open Idealize.ShloMosaic Idealize.ShloMosaic.TcCoe Idealize.ShloMosaic.Tactic
open Idealize.SL Idealize.SL.RA Idealize.SL.BI
open Cert.KernelIdeal Cert.KernelIdeal.Gen

variable {F : FTy → Type} [FloatOps F]

/-! ## One tile -/

/-- The lanes a gather of words reads, moved by `off` lanes and normalised as the kernel does it. -/
def lanes (src : IVec S8x128 32) (off : BitVec 32) : IVec S8x128 32 :=
  shapeCast S8x128 (shapeCast S8x128x1
    (select (cmpi .slt (addi src (broadcast S8x128 off)) (broadcast S8x128 0#32))
      (addi (addi src (broadcast S8x128 off)) (broadcast S8x128 128#32)) (addi src (broadcast S8x128 off)))
    shapeCasts_S8x128_S8x128x1) shapeCasts_S8x128x1_S8x128

/-- The codes of a tile: the half words gathered along lanes, shifted, masked to one code per half, over the exponent of 128. -/
def codes (shift src : IVec S8x128 32) (off : BitVec 32) (halves : IVec S8x128 32) : IVec S8x128 32 :=
  ori (andi (shrui (dynamicGather 1 halves (lanes src off)) shift) (broadcast S8x128 983055#32)) (broadcast S8x128 1124090624#32)

/-- Words of pairs of bf16 read as rows of bf16. -/
def asRows (x : IVec S8x128 32) : FVec F S16x128 .bf16 :=
  bitcastToFloat .bf16 (bitcast S16x128 16 x bitcasts_S8x128_w32_S16x128_w16)

/-- A tile of weights: codes less zero points, times scales. -/
def tile (shift src : IVec S8x128 32) (off : BitVec 32) (zero scale : FVec F S16x128 .bf16) (halves : IVec S8x128 32) :
    FVec F S16x128 .bf16 :=
  shapeCast S16x128 (mulf (subf (asRows (codes shift src off halves)) zero) scale) shapeCasts_S16x128_S16x128

/-! ## One trip of the loop -/

/-- The weight rows of group `k` from row `16 p` on, as the kernel computes it. -/
def rowOf (k : Fin k0_t1_loop.trips) (p : Fin 8) : Nat :=
  (Scalar.indexCast (Scalar.addi (Scalar.muli (Scf.iv 0#32 1#32 k) 128#32) (BitVec.ofNat 32 (16 * p.val)))).toNat

/-- The first row of piece `p` of a trip. -/
theorem rowOf_eq (k : Fin k0_t1_loop.trips) (p : Fin 8) : rowOf k p = 128 * k.val + 16 * p.val :=
  congrFun (k0_off10_eq k p) 0

/-- The group of trip `k`, as the kernel computes it. -/
def groupOf (k : Fin k0_t1_loop.trips) : Nat := (Scalar.indexCast (Scf.iv 0#32 1#32 k)).toNat

/-- Trip `k` works on group `k`. -/
theorem groupOf_eq (k : Fin k0_t1_loop.trips) : groupOf k = k.val := congrFun (k0_off1_eq k) 1

/-- The loop makes 56 trips. -/
theorem trips_lt (k : Fin k0_t1_loop.trips) : k.val < 56 := Nat.lt_of_lt_of_le k.isLt k0_t1_abs.2.1

/-- The blocks a trip stores into the weight scratch are in range. -/
theorem inbW (k : Fin k0_t1_loop.trips) (b : Fin 5) (p : Fin 8) (sub : Fin 4) :
    ∀ a, (![rowOf k p, 512 * b.val + 128 * sub.val] : Fin 2 → Nat) a + S16x128.size a ≤ S7168x2560.size a := fun a => by
  have := trips_lt k; have := rowOf_eq k p; have := p.isLt; have := b.isLt; have := sub.isLt
  match a with
  | ⟨0, _⟩ => show rowOf k p + 16 ≤ 7168; omega
  | ⟨1, _⟩ => show 512 * b.val + 128 * sub.val + 128 ≤ 2560; omega

/-- The blocks of packed weights a trip reads are in range. -/
theorem inbX (k : Fin k0_t1_loop.trips) (b : Fin 5) (p : Fin 8) :
    ∀ a, (![rowOf k p, 64 * b.val] : Fin 2 → Nat) a + S16x64.size a ≤ S7168x320.size a := fun a => by
  have := trips_lt k; have := rowOf_eq k p; have := p.isLt; have := b.isLt
  match a with
  | ⟨0, _⟩ => show rowOf k p + 16 ≤ 7168; omega
  | ⟨1, _⟩ => show 64 * b.val + 64 ≤ 320; omega

/-- The rows of zero points a trip reads are in range. -/
theorem inbZ (k : Fin k0_t1_loop.trips) (b : Fin 5) (sub : Fin 4) :
    ∀ a, (![4 * b.val + sub.val, groupOf k, 0] : Fin 3 → Nat) a + S1x1x128.size a ≤ S20x56x128.size a := fun a => by
  have := trips_lt k; have := groupOf_eq k; have := b.isLt; have := sub.isLt
  match a with
  | ⟨0, _⟩ => show 4 * b.val + sub.val + 1 ≤ 20; omega
  | ⟨1, _⟩ => show groupOf k + 1 ≤ 56; omega
  | ⟨2, _⟩ => show 0 + 128 ≤ 128; omega

/-- The rows of scales a trip reads are in range. -/
theorem inbS (k : Fin k0_t1_loop.trips) (b : Fin 5) (sub : Fin 4) :
    ∀ a, (![4 * b.val + sub.val, groupOf k, 0, 0] : Fin 4 → Nat) a + S1x1x2x128.size a ≤ S20x56x2x128.size a := fun a => by
  have := trips_lt k; have := groupOf_eq k; have := b.isLt; have := sub.isLt
  match a with
  | ⟨0, _⟩ => show 4 * b.val + sub.val + 1 ≤ 20; omega
  | ⟨1, _⟩ => show groupOf k + 1 ≤ 56; omega
  | ⟨2, _⟩ => show 0 + 2 ≤ 2; omega
  | ⟨3, _⟩ => show 0 + 128 ≤ 128; omega

variable (arg2 : Memref sig .tc .vmem S7168x320 .i32) (arg7 : Memref sig .tc .vmem S20x56x2x128 .bf16)
  (arg8 : Memref sig .tc .vmem S20x56x128 .i32)
  (X2 : BufTy.Contents (Elt F) arg2.view.ty) (X7 : BufTy.Contents (Elt F) arg7.view.ty) (X8 : BufTy.Contents (Elt F) arg8.view.ty)

/-- The words the trip loads for 16 rows and 64 columns of packed weights. -/
def ldW (k : Fin k0_t1_loop.trips) (b : Fin 5) (p : Fin 8) : Vec F S16x64 .i32 :=
  View.readAt (Elt F) arg2.view (Rect.unit (s := S7168x320) ![rowOf k p, 64 * b.val] S16x64.size (inbX k b p)).toLoadRect X2

/-- The row of zero points the trip loads for 128 columns. -/
def ldZ (k : Fin k0_t1_loop.trips) (b : Fin 5) (sub : Fin 4) : Vec F S1x1x128 .i32 :=
  View.readAt (Elt F) arg8.view (Rect.unit (s := S20x56x128) ![4 * b.val + sub.val, groupOf k, 0] S1x1x128.size (inbZ k b sub)).toLoadRect X8

/-- The row of scales the trip loads for 128 columns. -/
def ldS (k : Fin k0_t1_loop.trips) (b : Fin 5) (sub : Fin 4) : Vec F S1x1x2x128 .bf16 :=
  View.readAt (Elt F) arg7.view (Rect.unit (s := S20x56x2x128) ![4 * b.val + sub.val, groupOf k, 0, 0] S1x1x2x128.size (inbS k b sub)).toLoadRect X7

/-- One store of the trip: 16 rows and 128 columns of weights. -/
def piece (shift src : IVec S8x128 32) (k : Fin k0_t1_loop.trips) (n : Fin 5 × Fin 8 × Fin 4) :
    View.Piece (Elt F) S7168x2560 .bf16 :=
  ⟨Rect.unit (s := S7168x2560) ![rowOf k n.2.1, 512 * n.1.val + 128 * n.2.2.val] S16x128.size (inbW k n.1 n.2.1 n.2.2),
    tile shift src (BitVec.ofNat 32 (16 * n.2.2.val)) (k0_pay3 (F := F) (ldZ arg8 X8 k n.1 n.2.2)) (k0_pay7 (ldS arg7 X7 k n.1 n.2.2))
      (k0_pay12 (F := F) (ldW arg2 X2 k n.1 n.2.1))⟩

/-- The trip's stores, the last first. -/
def order : List (Fin 5 × Fin 8 × Fin 4) :=
  [4, 3, 2, 1, 0].flatMap fun b => [7, 6, 5, 4, 3, 2, 1, 0].flatMap fun p => [3, 2, 1, 0].map fun sub => (b, p, sub)

set_option maxHeartbeats 4000000 in
/-- THE TRIP'S STORES are the 160 tiles. -/
theorem tripL_eq (𝒱 : Variants) (c : Dev nD) (bd : Option 𝒱.V) (i : grid0.Coords) (arg1 : Memref sig .tc .vmem S256x7168 .bf16) (harg1 : arg1.IsWhole) (harg2 : arg2.IsWhole) (arg3 : Memref sig .tc .vmem S56x2560 .bf16) (harg3 : arg3.IsWhole) (arg4 : Memref sig .tc .vmem S56x320 .i32) (harg4 : arg4.IsWhole) (arg5 : Memref sig .tc .vmem S256x2560 .bf16) (harg5 : arg5.IsWhole) (arg6 : Memref sig .tc .vmem S7168x2560 .bf16) (harg6 : arg6.IsWhole) (harg7 : arg7.IsWhole) (harg8 : arg8.IsWhole) (h1 : k0_cond1 i = 1#1) (shift src : IVec S8x128 32) (k : Fin k0_t1_loop.trips) :
    tripL_k0_t1 (F := F) 𝒱 c bd i arg1 harg1 arg2 harg2 arg3 harg3 arg4 harg4 arg5 harg5 arg6 harg6 arg7 harg7 arg8 harg8 h1 shift src X2 X7 X8 k
      = order.map (piece arg2 arg7 arg8 X2 X7 X8 shift src k) := by
  sl_kernel_rfl

end Cert.KernelIdeal.Tile

end
-- ==== Proof.Claims.lean ====
/- The frames of the three programs, and that the rules which read the packed words as pairs preserve them. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Bf16PairInverse
public import Idealize.ShloMosaic.Lib.Quiescent

@[expose] public section

noncomputable section

namespace Cert.Proof

open Idealize.ShloMosaic Idealize.SL.Sem

/-- The kernel runs to its end from any memory, leaves its arguments as they were and every semaphore at zero. -/
theorem frame_kernel : Cert.quiescent_Kernel := fun m ρ _ => Cert.Kernel.Gen.frame m ρ

/-- The same of the kernel over the extended reals. -/
theorem frame_kernel_ideal : Cert.quiescent_KernelIdeal := fun m ρ _ => Cert.KernelIdeal.Gen.frame m ρ

/-- The same of the reference over the extended reals. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

open Cert.KernelIdeal IdealRules.bf16_pair in
/-- The words of pairs of bf16 the kernel packs and unpacks are the pairs the idealized kernel keeps. -/
theorem preserves : Cert.preserves_Kernel_KernelIdeal :=
  ⟨bufferStatement S20x56x2x128 S20x56x1x128, packStatement S56x128, statement S1x56x2x128 S1x56x1x128,
    statement S1x1x2x128 S1x1x1x128, statement S16x128 S8x128⟩

end Cert.Proof

end
-- ==== Proof.Tables.lean ====
/- The tables the first grid point builds, as lists of stores in closed form: 20 stores of scales, 140 of zero points; and the
   whole list of what the first grid point leaves. -/
module

public import proofs.«01_k».proof.Proof.Tile

@[expose] public section

set_option maxRecDepth 16384

noncomputable section

namespace Cert.KernelIdeal.Tile

open Idealize.ShloMosaic Idealize.ShloMosaic.TcCoe Idealize.ShloMosaic.Tactic
open Idealize.SL Idealize.SL.RA Idealize.SL.BI
open Cert.KernelIdeal Cert.KernelIdeal.Gen

variable {F : FTy → Type} [FloatOps F]

/-- The lane numbers of a row of 128 lanes. -/
def lane : IVec S8x128 32 := iota .tc S8x128 32 [1]

/-- The shift of each lane: four bits per step of half its residue modulo eight. -/
def shiftC : IVec S8x128 32 :=
  muli (shrsi (andi lane (broadcast S8x128 7#32)) (broadcast S8x128 1#32)) (broadcast S8x128 4#32)

/-- The lane each lane gathers from: its quotient by eight, in the second half for an odd residue. -/
def srcC : IVec S8x128 32 :=
  addi (shrsi lane (broadcast S8x128 3#32)) (muli (andi (andi lane (broadcast S8x128 7#32)) (broadcast S8x128 1#32)) (broadcast S8x128 64#32))

/-- The two halves of each word of zero points, doubled, side by side. -/
def halvesSame (z : IVec S8x64 32) : IVec S8x128 32 :=
  concatenate S8x128 1
    [⟨S8x64, ori (andi z (broadcast S8x64 65535#32)) (shli z (broadcast S8x64 16#32))⟩,
     ⟨S8x64, ori (shrui z (broadcast S8x64 16#32)) (andi z (broadcast S8x64 4294901760#32))⟩] concatenates_S8x64_S8x64_S8x128_d1

variable (arg3 : Memref sig .tc .vmem S56x2560 .bf16) (arg4 : Memref sig .tc .vmem S56x320 .i32)
  (X3 : BufTy.Contents (Elt F) arg3.view.ty) (X4 : BufTy.Contents (Elt F) arg4.view.ty)

/-- The twenty slabs of the scale table are in range. -/
theorem inbT (t : Fin 20) : ∀ a, (![t.val, 0, 0, 0] : Fin 4 → Nat) a + S1x56x2x128.size a ≤ S20x56x2x128.size a := fun a => by
  have := t.isLt
  match a with
  | ⟨0, _⟩ => show t.val + 1 ≤ 20; omega
  | ⟨1, _⟩ => show 0 + 56 ≤ 56; omega
  | ⟨2, _⟩ => show 0 + 2 ≤ 2; omega
  | ⟨3, _⟩ => show 0 + 128 ≤ 128; omega

/-- The twenty column blocks of the scales are in range. -/
theorem inbC (t : Fin 20) : ∀ a, (![0, 128 * t.val] : Fin 2 → Nat) a + S56x128.size a ≤ S56x2560.size a := fun a => by
  have := t.isLt
  match a with
  | ⟨0, _⟩ => show 0 + 56 ≤ 56; omega
  | ⟨1, _⟩ => show 128 * t.val + 128 ≤ 2560; omega

/-- The blocks of eight rows of the zero-point table are in range. -/
theorem inbR (r : Fin 7) (b : Fin 5) (sub : Fin 4) :
    ∀ a, (![4 * b.val + sub.val, 8 * r.val, 0] : Fin 3 → Nat) a + S1x8x128.size a ≤ S20x56x128.size a := fun a => by
  have := r.isLt; have := b.isLt; have := sub.isLt
  match a with
  | ⟨0, _⟩ => show 4 * b.val + sub.val + 1 ≤ 20; omega
  | ⟨1, _⟩ => show 8 * r.val + 8 ≤ 56; omega
  | ⟨2, _⟩ => show 0 + 128 ≤ 128; omega

/-- The blocks of the packed zero points are in range. -/
theorem inbQ (r : Fin 7) (b : Fin 5) : ∀ a, (![8 * r.val, 64 * b.val] : Fin 2 → Nat) a + S8x64.size a ≤ S56x320.size a := fun a => by
  have := r.isLt; have := b.isLt
  match a with
  | ⟨0, _⟩ => show 8 * r.val + 8 ≤ 56; omega
  | ⟨1, _⟩ => show 64 * b.val + 64 ≤ 320; omega

/-- The scales of 128 columns, as loaded. -/
def ldC (t : Fin 20) : Vec F S56x128 .bf16 :=
  View.readAt (Elt F) arg3.view (Rect.unit (s := S56x2560) ![0, 128 * t.val] S56x128.size (inbC t)).toLoadRect X3

/-- The words of zero points of eight groups and 64 columns of words, as loaded. -/
def ldQ (r : Fin 7) (b : Fin 5) : Vec F S8x64 .i32 :=
  View.readAt (Elt F) arg4.view (Rect.unit (s := S56x320) ![8 * r.val, 64 * b.val] S8x64.size (inbQ r b)).toLoadRect X4

/-- One store of the table of scales. -/
def scalePiece (t : Fin 20) : View.Piece (Elt F) S20x56x2x128 .bf16 :=
  ⟨Rect.unit (s := S20x56x2x128) ![t.val, 0, 0, 0] S1x56x2x128.size (inbT t), k0_pay347 (ldC arg3 X3 t)⟩

/-- One store of the table of zero points. -/
def zeroPiece (n : Fin 7 × Fin 5 × Fin 4) : View.Piece (Elt F) S20x56x128 .i32 :=
  ⟨Rect.unit (s := S20x56x128) ![4 * n.2.1.val + n.2.2.val, 8 * n.1.val, 0] S1x8x128.size (inbR n.1 n.2.1 n.2.2),
    shapeCast S1x8x128 (codes shiftC srcC (BitVec.ofNat 32 (16 * n.2.2.val)) (halvesSame (ldQ (F := F) arg4 X4 n.1 n.2.1))) shapeCasts_S8x128_S1x8x128⟩

/-- The stores of scales, the last first. -/
def scaleOrder : List (Fin 20) := [19, 18, 17, 16, 15, 14, 13, 12, 11, 10, 9, 8, 7, 6, 5, 4, 3, 2, 1, 0]

/-- The stores of zero points, the last first. -/
def zeroOrder : List (Fin 7 × Fin 5 × Fin 4) :=
  [6, 5, 4, 3, 2, 1, 0].flatMap fun r => [4, 3, 2, 1, 0].flatMap fun b => [3, 2, 1, 0].map fun sub => (r, b, sub)

/-- THE TABLE OF SCALES is its 20 stores. -/
theorem scales_eq (c : Dev nD) (harg3 : arg3.IsWhole) (x2 : Vec F S56x2560 .bf16) :
    kernelRun0_A.sl.HS1_20 (F := F) c arg3 harg3 x2 = scaleOrder.map (scalePiece arg3 (harg3.unread x2)) := by
  sl_kernel_rfl

set_option maxHeartbeats 4000000 in
/-- THE TABLE OF ZERO POINTS is its 140 stores. -/
theorem zeros_eq (c : Dev nD) (harg4 : arg4.IsWhole) (x3 : Vec F S56x320 .i32) :
    kernelRun0_A.sl.HS2_140 (F := F) c arg4 harg4 x3 = zeroOrder.map (zeroPiece arg4 (harg4.unread x3)) := by
  sl_kernel_rfl

end Cert.KernelIdeal.Tile

end
-- ==== Proof.Words.lean ====
/- The bits of the dequantization: which word a lane gathers, by how much it shifts it, and that each half of a shifted and masked
   word holds one code over the exponent of 128. -/
module

public import proofs.«01_k».proof.Proof.Tables
public import Idealize.ShloMosaic.Lib.Pointwise
public import Idealize.ShloMosaic.Lib.BitcastPair

@[expose] public section

set_option maxRecDepth 16384

noncomputable section

namespace Cert.KernelIdeal.Words

open Idealize.ShloMosaic Idealize.ShloMosaic.Tactic
open Cert.KernelIdeal Cert.KernelIdeal.Gen Cert.KernelIdeal.Tile

/-- The shift of the column with residue `n % 8` inside its half word. -/
def halfShift (n : Nat) : Nat := 4 * (n % 8 / 2)

/-- The shift of the column with residue `n % 8` inside its word. -/
def wordShift (n : Nat) : Nat := 16 * (n % 2) + halfShift n

/-- A code over the exponent of 128, from the half word it lies in. -/
def codeOf (h : BitVec 16) (s : Nat) : BitVec 16 := (h >>> s &&& 15#16) ||| 17152#16

/-- The half of a word in which the columns of parity `p` lie. -/
def halfOf (w : BitVec 32) (p : Nat) : BitVec 16 := (w >>> (16 * p)).setWidth 16

/-- The bits of a column's weight code: the four bits of the word at the column's shift, over the exponent of 128. -/
def code (w : BitVec 32) (n : Nat) : BitVec 16 := codeOf (halfOf w (n % 2)) (halfShift n)

/-- The word lane `l` of sub-block `sub` gathers. -/
def laneOf (l : Fin 128) (sub : Fin 4) : Fin 128 :=
  ⟨l.val / 8 + 64 * (l.val % 2) + 16 * sub.val, by have := l.isLt; have := sub.isLt; omega⟩

/-- A shift of a half word is 0, 4, 8 or 12. -/
theorem halfShift_cases (n : Nat) : halfShift n = 0 ∨ halfShift n = 4 ∨ halfShift n = 8 ∨ halfShift n = 12 := by
  unfold halfShift; omega

/-- The shift of lane `l`. -/
theorem shiftC_apply (r : Fin 8) (l : Fin 128) : shiftC (ix2 r l) = BitVec.ofNat 32 (halfShift l.val) := by
  pointwise [shiftC, lane]
  clear r; revert l; decide +kernel

/-- The lane gathered by lane `l`. -/
theorem lanes_apply (sub : Fin 4) (r : Fin 8) (l : Fin 128) :
    (lanes srcC (BitVec.ofNat 32 (16 * sub.val)) (ix2 r l)).toNat % 128 = (laneOf l sub).val := by
  pointwise [lanes, srcC, lane]
  clear r; revert sub l; decide +kernel

/-- A lane's code word: the gathered word, shifted and masked, over the exponent of 128 in both halves. -/
theorem codes_apply (sub : Fin 4) (h : IVec S8x128 32) (r : Fin 8) (l : Fin 128) :
    codes shiftC srcC (BitVec.ofNat 32 (16 * sub.val)) h (ix2 r l)
      = (h (ix2 r (laneOf l sub)) >>> halfShift l.val &&& 983055#32) ||| 1124090624#32 := by
  unfold codes
  pointwise
  have e : (⟨(lanes srcC (BitVec.ofNat 32 (16 * sub.val)) (ix2 r l)).toNat % 128, Nat.mod_lt _ (by decide)⟩ : Fin 128) = laneOf l sub :=
    Fin.ext (lanes_apply sub r l)
  rw [e, shiftC_apply]
  have hs : (BitVec.ofNat 32 (halfShift l.val)).toNat = halfShift l.val := by
    rcases halfShift_cases l.val with h | h | h | h <;> rw [h] <;> rfl
  have hlt : halfShift l.val < 32 := by unfold halfShift; omega
  unfold IntOp.ori IntOp.andi IntOp.shrui
  rw [if_pos (by rw [hs]; exact hlt), BitVec.ushiftRight_eq', hs]

/-- The low half of a code word is the code of the word's low half. -/
theorem low_code (a b : BitVec 16) (n : Nat) :
    (((b ++ a : BitVec 32) >>> halfShift n &&& 983055#32) ||| 1124090624#32).extractLsb' 0 16 = codeOf a (halfShift n) := by
  unfold codeOf
  rcases halfShift_cases n with h | h | h | h <;> rw [h] <;> apply BitVec.eq_of_getLsbD_eq <;> intro i hi <;>
    simp only [BitVec.getLsbD_or, BitVec.getLsbD_and, BitVec.getLsbD_ushiftRight, BitVec.getLsbD_shiftLeft, BitVec.getLsbD_extractLsb', BitVec.getLsbD_append, BitVec.getLsbD_setWidth] <;> interval_cases i <;> simp

/-- The high half of a code word is the code of the word's high half. -/
theorem high_code (a b : BitVec 16) (n : Nat) :
    (((b ++ a : BitVec 32) >>> halfShift n &&& 983055#32) ||| 1124090624#32).extractLsb' 16 16 = codeOf b (halfShift n) := by
  unfold codeOf
  rcases halfShift_cases n with h | h | h | h <;> rw [h] <;> apply BitVec.eq_of_getLsbD_eq <;> intro i hi <;>
    simp only [BitVec.getLsbD_or, BitVec.getLsbD_and, BitVec.getLsbD_ushiftRight, BitVec.getLsbD_shiftLeft, BitVec.getLsbD_extractLsb', BitVec.getLsbD_append, BitVec.getLsbD_setWidth] <;> interval_cases i <;> simp

/-- A code word of two equal halves is its code twice. -/
theorem both_code (a : BitVec 16) (n : Nat) :
    (((a ++ a : BitVec 32) >>> halfShift n &&& 983055#32) ||| 1124090624#32) = codeOf a (halfShift n) ++ codeOf a (halfShift n) := by
  unfold codeOf
  rcases halfShift_cases n with h | h | h | h <;> rw [h] <;> apply BitVec.eq_of_getLsbD_eq <;> intro i hi <;>
    simp only [BitVec.getLsbD_or, BitVec.getLsbD_and, BitVec.getLsbD_ushiftRight, BitVec.getLsbD_shiftLeft, BitVec.getLsbD_extractLsb', BitVec.getLsbD_append, BitVec.getLsbD_setWidth] <;> interval_cases i <;> simp

/-- Rows of words read as rows of bf16: row `i` is the half of parity `i` of row `i / 2`. -/
theorem asRows_apply (x : IVec S8x128 32) (i : Fin 16) (l : Fin 128) :
    asRows (F := Ideal) x (ix2 i l) = FloatOps.ofBits (F := Ideal) .bf16 ((x (ix2 ⟨i.val / 2, by omega⟩ l)).extractLsb' (16 * (i.val % 2)) 16) := by
  unfold asRows bitcastToFloat
  rw [bitcast_32_16]
  have e : bitcasts_S8x128_w32_S16x128_w16.srcIdx (ix2 i l) (S16x128.row (ix2 i l) / 2) (fun a ha => by
      have := bitcasts_S8x128_w32_S16x128_w16.pos_lt (ix2 i l) 0 (by decide) a ha; omega) = ix2 ⟨i.val / 2, by omega⟩ l := by
    funext a
    match a with
    | ⟨0, _⟩ => rfl
    | ⟨1, _⟩ => rfl
  rw [e]
  rfl

/-- A zero-point word's low half, twice. -/
theorem lowWord (z : BitVec 32) : (z &&& 65535#32) ||| (z <<< 16) = halfOf z 0 ++ halfOf z 0 := by
  unfold halfOf
  apply BitVec.eq_of_getLsbD_eq; intro i hi
  simp only [BitVec.getLsbD_or, BitVec.getLsbD_and, BitVec.getLsbD_ushiftRight, BitVec.getLsbD_shiftLeft, BitVec.getLsbD_extractLsb', BitVec.getLsbD_append, BitVec.getLsbD_setWidth] <;> interval_cases i <;> simp

/-- A zero-point word's high half, twice. -/
theorem highWord (z : BitVec 32) : (z >>> 16) ||| (z &&& 4294901760#32) = halfOf z 1 ++ halfOf z 1 := by
  unfold halfOf
  apply BitVec.eq_of_getLsbD_eq; intro i hi
  simp only [BitVec.getLsbD_or, BitVec.getLsbD_and, BitVec.getLsbD_ushiftRight, BitVec.getLsbD_shiftLeft, BitVec.getLsbD_extractLsb', BitVec.getLsbD_append, BitVec.getLsbD_setWidth] <;> interval_cases i <;> simp

/-- The doubled halves: lane `q` holds twice the half `q / 64` of word `q % 64`. -/
theorem halvesSame_apply (z : IVec S8x64 32) (r : Fin 8) (q : Fin 128) :
    halvesSame z (ix2 r q) = halfOf (z (ix2 r ⟨q.val % 64, by omega⟩)) (q.val / 64) ++ halfOf (z (ix2 r ⟨q.val % 64, by omega⟩)) (q.val / 64) := by
  unfold halvesSame
  pointwise
  by_cases h : q.val < 64
  · have e : (⟨q.val % 64, Nat.mod_lt _ (by decide)⟩ : Fin 64) = ⟨q.val, h⟩ := Fin.ext (by simp; omega)
    rw [dif_pos h, e, show q.val / 64 = 0 by omega, ← lowWord]
    rfl
  · have e : (⟨q.val % 64, Nat.mod_lt _ (by decide)⟩ : Fin 64) = ⟨q.val - 64, by omega⟩ := Fin.ext (by simp; omega)
    rw [dif_neg h, e, show q.val / 64 = 1 by omega, ← highWord]
    rfl

/-- Two rows of half words read as words: row `r` holds rows `2 r` and `2 r + 1`. -/
theorem pairRows_apply (x : IVec S16x64 16) (r : Fin 8) (q : Fin 64) :
    bitcast S8x64 32 x bitcasts_S16x64_w16_S8x64_w32 (ix2 r q) = x (ix2 ⟨2 * r.val + 1, by omega⟩ q) ++ x (ix2 ⟨2 * r.val, by omega⟩ q) := by
  rw [bitcast_16_32]
  congr 1 <;> congr 1 <;> funext a <;> match a with | ⟨0, _⟩ => rfl | ⟨1, _⟩ => rfl

/-- The half words of a block of weights: lane `q` holds the halves `q / 64` of word `q % 64` of two rows. -/
theorem halves_apply (w : Vec Ideal S16x64 .i32) (r : Fin 8) (q : Fin 128) :
    k0_pay12 (F := Ideal) w (ix2 r q) = halfOf (w (ix2 ⟨2 * r.val + 1, by omega⟩ ⟨q.val % 64, by omega⟩)) (q.val / 64)
      ++ halfOf (w (ix2 ⟨2 * r.val, by omega⟩ ⟨q.val % 64, by omega⟩)) (q.val / 64) := by
  unfold k0_pay12
  pointwise
  by_cases h : q.val < 64
  · have e : (⟨q.val % 64, Nat.mod_lt _ (by decide)⟩ : Fin 64) = ⟨q.val, h⟩ := Fin.ext (by simp; omega)
    rw [dif_pos h, e, show q.val / 64 = 0 by omega, pairRows_apply]
    rfl
  · have e : (⟨q.val % 64, Nat.mod_lt _ (by decide)⟩ : Fin 64) = ⟨q.val - 64, by omega⟩ := Fin.ext (by simp; omega)
    rw [dif_neg h, e, show q.val / 64 = 1 by omega, pairRows_apply]
    rfl

end Cert.KernelIdeal.Words

end
-- ==== Proof.Runs.lean ====
/- What a grid point leaves, in closed form: the output block is ten products of 256 columns with the weights of the scratch, and
   the first point leaves in that scratch the stores of the 56 trips. -/
module

public import proofs.«01_k».proof.Proof.Tables
public import proofs.«01_k».proof.Proof.Gen.KernelIdeal.Frame.RunB

@[expose] public section

set_option maxRecDepth 16384

noncomputable section

namespace Cert.KernelIdeal.Tile

open Idealize.ShloMosaic Idealize.ShloMosaic.TcCoe Idealize.ShloMosaic.Tactic
open Idealize.SL Idealize.SL.RA Idealize.SL.BI
open Cert.KernelIdeal Cert.KernelIdeal.Gen

variable {F : FTy → Type} [FloatOps F]

/-- The ten column blocks of the output window are in range. -/
theorem inbO (n : Fin 10) : ∀ a, (![0, 256 * n.val] : Fin 2 → Nat) a + S256x256.size a ≤ S256x2560.size a := fun a => by
  have := n.isLt
  match a with
  | ⟨0, _⟩ => show 0 + 256 ≤ 256; omega
  | ⟨1, _⟩ => show 256 * n.val + 256 ≤ 2560; omega

/-- The ten column blocks of the weight scratch are in range. -/
theorem inbV (n : Fin 10) : ∀ a, (![0, 256 * n.val] : Fin 2 → Nat) a + S7168x256.size a ≤ S7168x2560.size a := fun a => by
  have := n.isLt
  match a with
  | ⟨0, _⟩ => show 0 + 7168 ≤ 7168; omega
  | ⟨1, _⟩ => show 256 * n.val + 256 ≤ 2560; omega

/-- The input window, read whole, is in range. -/
theorem inbI : ∀ a, (![0, 0] : Fin 2 → Nat) a + S256x7168.size a ≤ S256x7168.size a := fun a => by
  match a with
  | ⟨0, _⟩ => show 0 + 256 ≤ 256; omega
  | ⟨1, _⟩ => show 0 + 7168 ≤ 7168; omega

/-- The rectangle of 256 columns of weights. -/
def colRect (n : Fin 10) : Rect S7168x2560 := Rect.unit (s := S7168x2560) ![0, 256 * n.val] S7168x256.size (inbV n)

/-- One store of the output block: the block of inputs times 256 columns of weights. -/
def colPiece (arg1 : Memref sig .tc .vmem S256x7168 .bf16) (X1 : BufTy.Contents (Elt F) arg1.view.ty)
    (w : Fin 10 → Vec F S7168x256 .bf16) (n : Fin 10) : View.Piece (Elt F) S256x2560 .bf16 :=
  ⟨Rect.unit (s := S256x2560) ![0, 256 * n.val] S256x256.size (inbO n),
    k0_pay654 (View.readAt (Elt F) arg1.view (Rect.unit (s := S256x7168) ![0, 0] S256x7168.size inbI).toLoadRect X1) (w n)⟩

/-- The ten stores of the output block, the last first. -/
def colOrder : List (Fin 10) := [9, 8, 7, 6, 5, 4, 3, 2, 1, 0]

/-- The stores of the 56 trips at the first grid point. -/
def allPieces (c : Dev nD) (i : grid0.Coords) (arg1 : Memref sig .tc .vmem S256x7168 .bf16) (harg1 : arg1.IsWhole) (arg2 : Memref sig .tc .vmem S7168x320 .i32) (harg2 : arg2.IsWhole) (arg3 : Memref sig .tc .vmem S56x2560 .bf16) (harg3 : arg3.IsWhole) (arg4 : Memref sig .tc .vmem S56x320 .i32) (harg4 : arg4.IsWhole) (arg5 : Memref sig .tc .vmem S256x2560 .bf16) (harg5 : arg5.IsWhole) (arg6 : Memref sig .tc .vmem S7168x2560 .bf16) (harg6 : arg6.IsWhole) (arg7 : Memref sig .tc .vmem S20x56x2x128 .bf16) (harg7 : arg7.IsWhole) (arg8 : Memref sig .tc .vmem S20x56x128 .i32) (harg8 : arg8.IsWhole) (hc0 : cond0_0 i)
    (x1 : Vec F S7168x320 .i32) (x2 : Vec F S56x2560 .bf16) (x3 : Vec F S56x320 .i32) : List (View.Piece (Elt F) S7168x2560 .bf16) :=
  pb_k0_t1 (F := F) Variants.none c none i arg1 harg1 arg2 harg2 arg3 harg3 arg4 harg4 arg5 harg5 arg6 harg6 arg7 harg7 arg8 harg8 hc0 shiftC srcC (harg2.unread x1)
    (arg7.view.writes (Elt F) arg7.view.junk (scaleOrder.map (scalePiece arg3 (harg3.unread x2))))
    (arg8.view.writes (Elt F) arg8.view.junk (zeroOrder.map (zeroPiece arg4 (harg4.unread x3))))
    (Scf.trips k0_t1_loop.lb k0_t1_loop.ub k0_t1_loop.st)

/-- THE FIRST POINT'S SCRATCH is the stores of the 56 trips. -/
theorem runA_scratch (c : Dev nD) (i : grid0.Coords) (arg1 : Memref sig .tc .vmem S256x7168 .bf16) (harg1 : arg1.IsWhole) (arg2 : Memref sig .tc .vmem S7168x320 .i32) (harg2 : arg2.IsWhole) (arg3 : Memref sig .tc .vmem S56x2560 .bf16) (harg3 : arg3.IsWhole) (arg4 : Memref sig .tc .vmem S56x320 .i32) (harg4 : arg4.IsWhole) (arg5 : Memref sig .tc .vmem S256x2560 .bf16) (harg5 : arg5.IsWhole) (arg6 : Memref sig .tc .vmem S7168x2560 .bf16) (harg6 : arg6.IsWhole) (arg7 : Memref sig .tc .vmem S20x56x2x128 .bf16) (harg7 : arg7.IsWhole) (arg8 : Memref sig .tc .vmem S20x56x128 .i32) (harg8 : arg8.IsWhole) (hc0 : cond0_0 i)
    (x0 : Vec F S256x7168 .bf16) (x1 : Vec F S7168x320 .i32) (x2 : Vec F S56x2560 .bf16) (x3 : Vec F S56x320 .i32) :
    (kernelRun0_A (F := F) c i arg1 harg1 arg2 harg2 arg3 harg3 arg4 harg4 arg5 harg5 arg6 harg6 arg7 harg7 arg8 harg8 hc0 x0 x1 x2 x3).2.1 = allPieces c i arg1 harg1 arg2 harg2 arg3 harg3 arg4 harg4 arg5 harg5 arg6 harg6 arg7 harg7 arg8 harg8 hc0 x1 x2 x3 := by
  unfold allPieces
  rw [← scales_eq arg3 c harg3 x2, ← zeros_eq arg4 c harg4 x3]
  sl_kernel_rfl

/-- THE FIRST POINT'S OUTPUT is ten products, with the weights it has just stored. -/
theorem runA_out (c : Dev nD) (i : grid0.Coords) (arg1 : Memref sig .tc .vmem S256x7168 .bf16) (harg1 : arg1.IsWhole) (arg2 : Memref sig .tc .vmem S7168x320 .i32) (harg2 : arg2.IsWhole) (arg3 : Memref sig .tc .vmem S56x2560 .bf16) (harg3 : arg3.IsWhole) (arg4 : Memref sig .tc .vmem S56x320 .i32) (harg4 : arg4.IsWhole) (arg5 : Memref sig .tc .vmem S256x2560 .bf16) (harg5 : arg5.IsWhole) (arg6 : Memref sig .tc .vmem S7168x2560 .bf16) (harg6 : arg6.IsWhole) (arg7 : Memref sig .tc .vmem S20x56x2x128 .bf16) (harg7 : arg7.IsWhole) (arg8 : Memref sig .tc .vmem S20x56x128 .i32) (harg8 : arg8.IsWhole) (hc0 : cond0_0 i)
    (x0 : Vec F S256x7168 .bf16) (x1 : Vec F S7168x320 .i32) (x2 : Vec F S56x2560 .bf16) (x3 : Vec F S56x320 .i32) :
    (kernelRun0_A (F := F) c i arg1 harg1 arg2 harg2 arg3 harg3 arg4 harg4 arg5 harg5 arg6 harg6 arg7 harg7 arg8 harg8 hc0 x0 x1 x2 x3).1
      = colOrder.map (colPiece arg1 (harg1.unread x0) fun n =>
          arg6.view.readCov (Val := Elt F) (allPieces c i arg1 harg1 arg2 harg2 arg3 harg3 arg4 harg4 arg5 harg5 arg6 harg6 arg7 harg7 arg8 harg8 hc0 x1 x2 x3) (colRect n).toLoadRect) := by
  unfold allPieces
  rw [← scales_eq arg3 c harg3 x2, ← zeros_eq arg4 c harg4 x3]
  sl_kernel_rfl

/-- A LATER POINT'S OUTPUT is ten products, with the weights the scratch holds. -/
theorem runB_out (c : Dev nD) (i : grid0.Coords) (arg1 : Memref sig .tc .vmem S256x7168 .bf16) (harg1 : arg1.IsWhole) (arg2 : Memref sig .tc .vmem S7168x320 .i32) (harg2 : arg2.IsWhole) (arg3 : Memref sig .tc .vmem S56x2560 .bf16) (harg3 : arg3.IsWhole) (arg4 : Memref sig .tc .vmem S56x320 .i32) (harg4 : arg4.IsWhole) (arg5 : Memref sig .tc .vmem S256x2560 .bf16) (harg5 : arg5.IsWhole) (arg6 : Memref sig .tc .vmem S7168x2560 .bf16) (harg6 : arg6.IsWhole) (arg7 : Memref sig .tc .vmem S20x56x2x128 .bf16) (harg7 : arg7.IsWhole) (arg8 : Memref sig .tc .vmem S20x56x128 .i32) (harg8 : arg8.IsWhole) (hc0 : ¬cond0_0 i)
    (x0 : Vec F S256x7168 .bf16) (x1 : Vec F S7168x320 .i32) (x2 : Vec F S56x2560 .bf16) (x3 : Vec F S56x320 .i32) (xs0 : Vec F S7168x2560 .bf16) :
    (kernelRun0_B (F := F) c i arg1 harg1 arg2 harg2 arg3 harg3 arg4 harg4 arg5 harg5 arg6 harg6 arg7 harg7 arg8 harg8 hc0 x0 x1 x2 x3 xs0).1
      = colOrder.map (colPiece arg1 (harg1.unread x0) fun n =>
          View.readAt (Elt F) arg6.view (colRect n).toLoadRect (harg6.unread xs0)) := by
  sl_kernel_rfl

end Cert.KernelIdeal.Tile

end
-- ==== Proof.Values.lean ====
/- What the stores hold over the extended reals: the tables of scales and zero points, and a tile of weights. -/
module

public import proofs.«01_k».proof.Proof.Words
public import proofs.«01_k».proof.Proof.Runs
public import Idealize.ShloMosaic.Lib.Pipeline.ValueKit

@[expose] public section

set_option maxRecDepth 16384

noncomputable section

namespace Cert.KernelIdeal.Values

open Idealize.ShloMosaic Idealize.ShloMosaic.Tactic Idealize.ShloMosaic.TcCoe
open Cert.KernelIdeal Cert.KernelIdeal.Gen Cert.KernelIdeal.Tile Cert.KernelIdeal.Words

/-- The extended real of a code over the exponent of 128. -/
def realOf (b : BitVec 16) : Ideal .bf16 := FloatOps.ofBits (F := Ideal) .bf16 b

/-- The table of scales: both rows of a pair hold the scale of the column. -/
def scaleTab (x2 : Vec Ideal S56x2560 .bf16) : Vec Ideal S20x56x2x128 .bf16 := fun j =>
  x2 (ix2 (n0 := 56) (n1 := 2560) (j 1) ⟨128 * (j 0).val + (j 3).val, by have h0 : (j 0).val < 20 := (j 0).isLt; have h3 : (j 3).val < 128 := (j 3).isLt; omega⟩)

/-- The zero point's code of column `128 t + l`. -/
def zeroCode (x3 : Vec Ideal S56x320 .i32) (g : Fin 56) (t : Fin 20) (l : Fin 128) : BitVec 16 :=
  code (x3 (ix2 g ⟨16 * t.val + l.val / 8, by have := t.isLt; have := l.isLt; omega⟩)) l.val

/-- The table of zero points: both halves of a word hold the code of the column. -/
def zeroTab (x3 : Vec Ideal S56x320 .i32) : Vec Ideal S20x56x128 .i32 := fun j =>
  zeroCode x3 (j 1) (j 0) (j 2) ++ zeroCode x3 (j 1) (j 0) (j 2)

/-- A stored block of scales. -/
theorem pay_scale (x : Vec Ideal S56x128 .bf16) (a : Fin 1) (g : Fin 56) (p : Fin 2) (l : Fin 128) :
    k0_pay347 (F := Ideal) x (ix4 a g p l) = x (ix2 g l) := by
  unfold k0_pay347
  pointwise
  exact ite_self _

/-- A row of zero points as bf16 rows. -/
theorem pay_zero (z : Vec Ideal S1x1x128 .i32) (i : Fin 16) (l : Fin 128) :
    k0_pay3 (F := Ideal) z (ix2 i l) = realOf ((z (ix3 0 0 l)).extractLsb' (16 * (i.val % 2)) 16) := by
  have h := asRows_apply (broadcastTo S8x128 (shapeCast S1x128 (shapeCast S1x128 z shapeCasts_S1x1x128_S1x128) shapeCasts_S1x128_S1x128) broadcasts_S1x128_S8x128) i l
  refine h.trans ?_
  unfold realOf
  pointwise

/-- A row of scales as bf16 rows. -/
theorem pay_row (s : Vec Ideal S1x1x2x128 .bf16) (i : Fin 16) (l : Fin 128) :
    k0_pay7 (F := Ideal) s (ix2 i l) = s (ix4 0 0 ⟨i.val % 2, by omega⟩ l) := by
  unfold k0_pay7
  pointwise
  simp only [dite_eq_ite, ite_self]
  by_cases h : i.val % 2 = 0
  · rw [if_pos h]; exact congrArg (fun p => s (ix4 0 0 p l)) (Fin.ext h.symm)
  · rw [if_neg h]; exact congrArg (fun p => s (ix4 0 0 p l)) (Fin.ext (show 1 = i.val % 2 by omega))

/-- The word a lane gathers, and the half of it. -/
theorem laneOf_mod (l : Fin 128) (sub : Fin 4) : (laneOf l sub).val % 64 = 16 * sub.val + l.val / 8 := by
  have := l.isLt; have := sub.isLt; unfold laneOf; dsimp only; omega

/-- The half of the gathered row that holds lane `l`'s word. -/
theorem laneOf_div (l : Fin 128) (sub : Fin 4) : (laneOf l sub).val / 64 = l.val % 2 := by
  have := l.isLt; have := sub.isLt; unfold laneOf; dsimp only; omega

/-- A tile of weights at an entry. -/
theorem tile_apply (sub : Fin 4) (zero scale : FVec Ideal S16x128 .bf16) (w : Vec Ideal S16x64 .i32) (i : Fin 16) (l : Fin 128) :
    tile shiftC srcC (BitVec.ofNat 32 (16 * sub.val)) zero scale (k0_pay12 (F := Ideal) w) (ix2 i l)
      = (realOf (code (w (ix2 i ⟨16 * sub.val + l.val / 8, by have := sub.isLt; have := l.isLt; omega⟩)) l.val) - zero (ix2 i l)) * scale (ix2 i l) := by
  unfold tile
  pointwise
  have hc : asRows (F := Ideal) (codes shiftC srcC (BitVec.ofNat 32 (16 * sub.val)) (k0_pay12 (F := Ideal) w)) (ix2 i l)
      = realOf (code (w (ix2 i ⟨16 * sub.val + l.val / 8, by have := sub.isLt; have := l.isLt; omega⟩)) l.val) := by
    rw [asRows_apply, codes_apply, halves_apply]
    have e : (⟨(laneOf l sub).val % 64, Nat.mod_lt _ (by decide)⟩ : Fin 64) = ⟨16 * sub.val + l.val / 8, by have := sub.isLt; have := l.isLt; omega⟩ :=
      Fin.ext (laneOf_mod l sub)
    rw [e, laneOf_div]
    unfold realOf code
    by_cases h : i.val % 2 = 0
    · rw [h, Nat.mul_zero, low_code]
      exact congrArg (fun k => FloatOps.ofBits (F := Ideal) .bf16 (codeOf (halfOf (w (ix2 k _)) _) _)) (Fin.ext (by dsimp only; omega))
    · rw [show i.val % 2 = 1 by omega, Nat.mul_one, high_code]
      exact congrArg (fun k => FloatOps.ofBits (F := Ideal) .bf16 (codeOf (halfOf (w (ix2 k _)) _) _)) (Fin.ext (by dsimp only; omega))
  rw [hc]

/-- A stored block of zero points. -/
theorem pay_codes (sub : Fin 4) (z : Vec Ideal S8x64 .i32) (a : Fin 1) (r : Fin 8) (l : Fin 128) :
    shapeCast S1x8x128 (codes shiftC srcC (BitVec.ofNat 32 (16 * sub.val)) (halvesSame z)) shapeCasts_S8x128_S1x8x128 (ix3 a r l)
      = code (z (ix2 r ⟨16 * sub.val + l.val / 8, by have := sub.isLt; have := l.isLt; omega⟩)) l.val
        ++ code (z (ix2 r ⟨16 * sub.val + l.val / 8, by have := sub.isLt; have := l.isLt; omega⟩)) l.val := by
  pointwise
  rw [codes_apply, halvesSame_apply, both_code]
  have e : (⟨(laneOf l sub).val % 64, Nat.mod_lt _ (by decide)⟩ : Fin 64) = ⟨16 * sub.val + l.val / 8, by have := sub.isLt; have := l.isLt; omega⟩ :=
    Fin.ext (laneOf_mod l sub)
  rw [e, laneOf_div]
  rfl

variable (arg3 : Memref sig .tc .vmem S56x2560 .bf16) (harg3 : arg3.IsWhole) (arg4 : Memref sig .tc .vmem S56x320 .i32) (harg4 : arg4.IsWhole)
  (arg7 : Memref sig .tc .vmem S20x56x2x128 .bf16) (arg8 : Memref sig .tc .vmem S20x56x128 .i32)
  (x2 : Vec Ideal S56x2560 .bf16) (x3 : Vec Ideal S56x320 .i32)

/-- The table of scales the first point leaves. -/
theorem read_scales : arg7.view.read (Elt Ideal) (arg7.view.writes (Elt Ideal) arg7.view.junk (scaleOrder.map (scalePiece arg3 (harg3.unread x2)))) = scaleTab x2 := by
  funext y
  refine View.read_writes_apply_of_pieces _ _ (scaleTab x2) _ (fun p hp x => ?_) y
    (View.cover_of_tiledL (scaleOrder.map (scalePiece arg3 (harg3.unread x2))) S1x56x2x128.size (by sl_kernel_rfl) y)
  obtain ⟨t, -, rfl⟩ := List.mem_map.1 hp
  obtain ⟨a, g, q, l, rfl⟩ : ∃ (a : Fin 1) (g : Fin 56) (q : Fin 2) (l : Fin 128), x = ix4 a g q l := ⟨x 0, x 1, x 2, x 3, eq_ix4 x⟩
  refine (pay_scale _ a g q l).trans ?_
  unfold ldC scaleTab
  rw [View.readAt_apply, harg3.read_unread]
  have h0 : ((scalePiece (F := Ideal) arg3 (harg3.unread x2) t).1.emb (ix4 a g q l) 0).val = t.val + 1 * a.val := rfl
  have h1 : ((scalePiece (F := Ideal) arg3 (harg3.unread x2) t).1.emb (ix4 a g q l) 1).val = 0 + 1 * g.val := rfl
  have h3 : ((scalePiece (F := Ideal) arg3 (harg3.unread x2) t).1.emb (ix4 a g q l) 3).val = 0 + 1 * l.val := rfl
  refine congrArg x2 (funext fun b => Fin.ext ?_)
  match b with
  | ⟨0, _⟩ => show 0 + 1 * g.val = _; exact h1.symm
  | ⟨1, _⟩ => show 128 * t.val + 1 * l.val = 128 * _ + _; rw [h0, h3]; have := a.isLt; omega

/-- The table of zero points the first point leaves. -/
theorem read_zeros : arg8.view.read (Elt Ideal) (arg8.view.writes (Elt Ideal) arg8.view.junk (zeroOrder.map (zeroPiece arg4 (harg4.unread x3)))) = zeroTab x3 := by
  funext y
  refine View.read_writes_apply_of_pieces _ _ (zeroTab x3) _ (fun p hp x => ?_) y
    (View.cover_of_tiledL (zeroOrder.map (zeroPiece arg4 (harg4.unread x3))) S1x8x128.size (by sl_kernel_rfl) y)
  obtain ⟨n, -, rfl⟩ := List.mem_map.1 hp
  obtain ⟨a, r, l, rfl⟩ : ∃ (a : Fin 1) (r : Fin 8) (l : Fin 128), x = ix3 a r l := ⟨x 0, x 1, x 2, eq_ix3 x⟩
  refine (pay_codes _ _ a r l).trans ?_
  unfold ldQ zeroTab
  rw [View.readAt_apply, harg4.read_unread]
  have h0 : ((zeroPiece (F := Ideal) arg4 (harg4.unread x3) n).1.emb (ix3 a r l) 0).val = 4 * n.2.1.val + n.2.2.val + 1 * a.val := rfl
  have h1 : ((zeroPiece (F := Ideal) arg4 (harg4.unread x3) n).1.emb (ix3 a r l) 1).val = 8 * n.1.val + 1 * r.val := rfl
  have h2 : ((zeroPiece (F := Ideal) arg4 (harg4.unread x3) n).1.emb (ix3 a r l) 2).val = l.val := by
    show 0 + 1 * l.val = l.val; omega
  have key : code (x3 ((Rect.unit (s := S56x320) ![8 * n.1.val, 64 * n.2.1.val] S8x64.size (inbQ n.1 n.2.1)).toLoadRect.idx
        (ix2 r ⟨16 * n.2.2.val + l.val / 8, by have := n.2.2.isLt; have := l.isLt; omega⟩))) l.val
      = zeroCode x3 ((zeroPiece (F := Ideal) arg4 (harg4.unread x3) n).1.emb (ix3 a r l) 1)
          ((zeroPiece (F := Ideal) arg4 (harg4.unread x3) n).1.emb (ix3 a r l) 0) ((zeroPiece (F := Ideal) arg4 (harg4.unread x3) n).1.emb (ix3 a r l) 2) := by
    unfold zeroCode
    refine congrArg₂ code (congrArg x3 (funext fun b => Fin.ext ?_)) h2.symm
    match b with
    | ⟨0, _⟩ => exact h1.symm
    | ⟨1, _⟩ => show 64 * n.2.1.val + 1 * (16 * n.2.2.val + l.val / 8) = 16 * _ + _ / 8; rw [h0, h2]; have := a.isLt; omega
  exact congrArg (fun b : BitVec 16 => b ++ b) key

end Cert.KernelIdeal.Values

end
-- ==== Proof.Reference.lean ====
/- The reference read at an index: column `n` is the dot product of the inputs with the weights of field `f` of word `n / 8`, where
   `n % 8` is that field's place among the word's eight columns. -/
module

public import proofs.«01_k».proof.Proof.Values
public import proofs.«01_k».proof.Proof.Gen.ReferenceIdeal.Run
public import proofs.«01_k».proof.Proof.Gen.ReferenceIdeal.Read
public import Idealize.ShloMosaic.Lib.Pointwise

@[expose] public section

set_option maxRecDepth 16384

noncomputable section

namespace Cert.ReferenceIdeal.Fields

open Idealize.ShloMosaic Idealize.ShloMosaic.Tactic Idealize.ShloMosaic.TcCoe
open Cert.ReferenceIdeal Cert.ReferenceIdeal.Gen Cert.ReferenceIdeal.Read

/-- The four bits of a word from bit `s` on, as a number. -/
def field (w : BitVec 32) (s : BitVec 32) : Ideal .bf16 := FloatOps.sitofp (F := Ideal) .bf16 (IntOp.andi (IntOp.shrsi .host w s) 15#32)

/-- The bit a place's field starts at: the fields follow the order 0, 2, 4, 6, 1, 3, 5, 7 of the places. -/
abbrev placeShift (r : Fin 8) : BitVec 32 := BitVec.ofNat 32 (16 * (r.val % 2) + 4 * (r.val / 2))

/-- Each of the reference's eight slices of the scales is in range. -/
theorem slices (r : Fin 8) : S56x2560.SlicesBy (![0, r.val] : Fin 2 → Nat) ![1, 8] S56x320 :=
  match r with
  | 0 => slicesBy_S56x2560_S56x320_0s1_0s8
  | 1 => slicesBy_S56x2560_S56x320_0s1_1s8
  | 2 => slicesBy_S56x2560_S56x320_0s1_2s8
  | 3 => slicesBy_S56x2560_S56x320_0s1_3s8
  | 4 => slicesBy_S56x2560_S56x320_0s1_4s8
  | 5 => slicesBy_S56x2560_S56x320_0s1_5s8
  | 6 => slicesBy_S56x2560_S56x320_0s1_6s8
  | 7 => slicesBy_S56x2560_S56x320_0s1_7s8

/-- The fields at one place of an array of words, as numbers. -/
def placeCodes (S : Shape) (h : S_.BroadcastsInDim S ![]) (s : BitVec 32) (w : Vec Ideal S .i32) : Vec Ideal S .bf16 :=
  sitofp (F := Ideal) .bf16 (andi (Host.shrsi w (broadcastInDim S ![] h (constantI S_ 32 s))) (broadcastInDim S ![] h (constantI S_ 32 15#32)))

/-- The weights at one place of the words, as the reference computes them. -/
def placeWeights (s : BitVec 32) (o : Nat) (h : S56x2560.SlicesBy (![0, o] : Fin 2 → Nat) ![1, 8] S56x320)
    (x1 : Vec Ideal S7168x320 .i32) (x2 : Vec Ideal S56x2560 .bf16) (x3 : Vec Ideal S56x320 .i32) : Vec Ideal S7168x320 .bf16 :=
  shapeCast S7168x320 (mulf (F := Ideal) (φ := .bf16) (subf (F := Ideal) (φ := .bf16) (shapeCast S56x128x320 (placeCodes S7168x320 bcast_S_S7168x320 s x1) shapeCasts_S7168x320_S56x128x320)
      (broadcastInDim S56x128x320 ![0, 1, 2] bcast_S56x1x320_S56x128x320_0_1_2
        (broadcastInDim S56x1x320 ![0, 2] bcast_S56x320_S56x1x320_0_2 (placeCodes S56x320 bcast_S_S56x320 s x3))))
      (broadcastInDim S56x128x320 ![0, 1, 2] bcast_S56x1x320_S56x128x320_0_1_2
        (broadcastInDim S56x1x320 ![0, 2] bcast_S56x320_S56x1x320_0_2 (Host.slice S56x320 ![0, o] ![1, 8] x2 h)))) shapeCasts_S56x128x320_S7168x320

/-- One place's columns of the result. -/
def part (x0 : Vec Ideal S16x1024x7168 .bf16) (x1 : Vec Ideal S7168x320 .i32) (x2 : Vec Ideal S56x2560 .bf16) (x3 : Vec Ideal S56x320 .i32) (r : Fin 8) :
    Vec Ideal S16x1024x320 .f32 :=
  Host.dotGeneral (F := Ideal) (φ₁ := .bf16) (φ₂ := .bf16) dot_S16x1024x7168_S7168x320_S16x1024x320_2_0_01_1_n_n none x0 (placeWeights (placeShift r) r.val (slices r) x1 x2 x3)

/-- The weights at a place, read at an index. -/
theorem placeWeights_apply (s : BitVec 32) (o : Nat) (h : S56x2560.SlicesBy (![0, o] : Fin 2 → Nat) ![1, 8] S56x320) (ho : o < 8)
    (x1 : Vec Ideal S7168x320 .i32) (x2 : Vec Ideal S56x2560 .bf16) (x3 : Vec Ideal S56x320 .i32) (k : Fin 7168) (q : Fin 320) :
    placeWeights s o h x1 x2 x3 (ix2 k q)
      = (field (x1 (ix2 k q)) s - field (x3 (ix2 ⟨k.val / 128, by omega⟩ q)) s) * x2 (ix2 ⟨k.val / 128, by omega⟩ ⟨o + 8 * q.val, by omega⟩) := by
  pointwise [placeWeights, placeCodes, field]

/-- A place's columns, read at an index. -/
theorem part_apply (x0 : Vec Ideal S16x1024x7168 .bf16) (x1 : Vec Ideal S7168x320 .i32) (x2 : Vec Ideal S56x2560 .bf16) (x3 : Vec Ideal S56x320 .i32) (r : Fin 8)
    (a : Fin 16) (b : Fin 1024) (q : Fin 320) :
    part x0 x1 x2 x3 r (ix3 a b q) = ∑ k : Fin 7168, x0 (ix3 a b k) * placeWeights (placeShift r) r.val (slices r) x1 x2 x3 (ix2 k q) := by
  unfold part
  generalize placeWeights (placeShift r) r.val (slices r) x1 x2 x3 = y
  pointwise []

/-- The reference stacks the eight places. -/
theorem stacked (x0 : Vec Ideal S16x1024x7168 .bf16) (x1 : Vec Ideal S7168x320 .i32) (x2 : Vec Ideal S56x2560 .bf16) (x3 : Vec Ideal S56x320 .i32) :
    val_main_v168 (F := Ideal) x0 x1 x2 x3 = concatenate S16x1024x320x8 3
      (List.ofFn fun r : Fin 8 => (⟨S16x1024x320x1, broadcastInDim S16x1024x320x1 ![0, 1, 2] bcast_S16x1024x320_S16x1024x320x1_0_1_2 (part x0 x1 x2 x3 r)⟩ : (s : Shape) × (s.Idx → Ideal .f32)))
      concatenates_S16x1024x320x1_S16x1024x320x1_S16x1024x320x1_S16x1024x320x1_S16x1024x320x1_S16x1024x320x1_S16x1024x320x1_S16x1024x320x1_S16x1024x320x8_d3 := by
  rfl

/-- THE REFERENCE READ AT AN INDEX. -/
theorem result (x0 : Vec Ideal S16x1024x7168 .bf16) (x1 : Vec Ideal S7168x320 .i32) (x2 : Vec Ideal S56x2560 .bf16) (x3 : Vec Ideal S56x320 .i32)
    (a : Fin 16) (b : Fin 1024) (n : Fin 2560) :
    val_main_v170 (F := Ideal) x0 x1 x2 x3 (ix3 a b n) = part x0 x1 x2 x3 ⟨n.val % 8, by omega⟩ (ix3 a b ⟨n.val / 8, by omega⟩) := by
  rw [val_main_v170_apply, Ideal.truncf_def]
  unfold val_main_v169
  rw [stacked]
  generalize part x0 x1 x2 x3 = y
  refine (shapeCast_apply _ shapeCasts_S16x1024x320x8_S16x1024x2560 (ix3 a b n) (ix4 a b ⟨n.val / 8, by omega⟩ ⟨n.val % 8, by omega⟩) ?_).trans ?_
  · rw [Shape.rowMajor_val_four, Shape.rowMajor_val_three]
    show ((a.val * 1024 + b.val) * 320 + n.val / 8) * 8 + n.val % 8 = (a.val * 1024 + b.val) * 2560 + n.val
    omega
  refine (concatenate_ofFn_unit_apply (t := S16x1024x320x8) 3 (fun r : Fin 8 => broadcastInDim S16x1024x320x1 ![0, 1, 2] bcast_S16x1024x320_S16x1024x320x1_0_1_2 (y r)) _ rfl rfl (ix4 a b (⟨n.val / 8, by omega⟩ : Fin 320) (⟨n.val % 8, by omega⟩ : Fin 8)) (⟨n.val % 8, by omega⟩ : Fin 8) rfl (ix4 a b ⟨n.val / 8, by omega⟩ 0) ?_).trans ?_
  · intro c hc
    match c with
    | ⟨0, _⟩ => rfl
    | ⟨1, _⟩ => rfl
    | ⟨2, _⟩ => rfl
    | ⟨3, _⟩ => exact absurd rfl hc
  · pointwise []

end Cert.ReferenceIdeal.Fields

end
-- ==== Proof.Weights.lean ====
/- The weights: every store of the 56 trips agrees with one function of the arguments, so the scratch holds the dequantized weights
   after the first grid point; and a grid point's output block is its block of inputs times those weights. -/
module

public import proofs.«01_k».proof.Proof.Values
public import proofs.«01_k».proof.Proof.Gen.KernelIdeal.Frame

@[expose] public section

set_option maxRecDepth 16384

noncomputable section

namespace Cert.KernelIdeal.Values

open Idealize.ShloMosaic Idealize.ShloMosaic.Tactic Idealize.ShloMosaic.TcCoe
open Cert.KernelIdeal Cert.KernelIdeal.Gen Cert.KernelIdeal.Tile Cert.KernelIdeal.Words

/-- The weight of row `k` and column `n`: the column's code less the column's zero point, times its scale. -/
def weight (x1 : Vec Ideal S7168x320 .i32) (x2 : Vec Ideal S56x2560 .bf16) (x3 : Vec Ideal S56x320 .i32) (k : Fin 7168) (n : Fin 2560) : Ideal .bf16 :=
  (realOf (code (x1 (ix2 k ⟨n.val / 8, by omega⟩)) n.val) - realOf (code (x3 (ix2 ⟨k.val / 128, by omega⟩ ⟨n.val / 8, by omega⟩)) n.val))
    * x2 (ix2 ⟨k.val / 128, by omega⟩ n)

/-- The weights as an array. -/
def weights (x1 : Vec Ideal S7168x320 .i32) (x2 : Vec Ideal S56x2560 .bf16) (x3 : Vec Ideal S56x320 .i32) : Vec Ideal S7168x2560 .bf16 := fun j =>
  weight x1 x2 x3 (j 0) (j 1)

/-- A column's code is read from its residue modulo 128. -/
theorem code_add (w : BitVec 32) (t l : Nat) : code w (128 * t + l) = code w l := by
  unfold code halfShift
  rw [show (128 * t + l) % 2 = l % 2 by omega, show (128 * t + l) % 8 = l % 8 by omega]

/-- Either half of a word of two equal halves. -/
theorem half_append (a : BitVec 16) (i : Nat) : (a ++ a : BitVec 32).extractLsb' (16 * (i % 2)) 16 = a := by
  rcases Nat.mod_two_eq_zero_or_one i with h | h <;> rw [h] <;> apply BitVec.eq_of_getLsbD_eq <;> intro j hj <;>
    simp only [BitVec.getLsbD_extractLsb', BitVec.getLsbD_append] <;> interval_cases j <;> simp

/-- A code read at a lane of a tile is the code read at the column. -/
theorem code_at (x1 : Vec Ideal S7168x320 .i32) (j : S7168x320.Idx) (k : Fin 7168) (n : Fin 2560) (t l : Nat) (h0 : (j 0).val = k.val)
    (h1 : (j 1).val = 16 * t + l / 8) (hn : n.val = 128 * t + l) : code (x1 j) l = code (x1 (ix2 k ⟨n.val / 8, by omega⟩)) n.val := by
  rw [← code_add _ t l, ← hn]
  refine congrArg (fun w => code w _) (congrArg x1 (funext fun b => Fin.ext ?_))
  match b with
  | ⟨0, _⟩ => exact h0
  | ⟨1, _⟩ => show (j 1).val = n.val / 8; omega

/-- The zero point kept for a group, a tile of 128 columns and a lane is the zero point of that group and column. -/
theorem zeroCode_eq (x3 : Vec Ideal S56x320 .i32) (g : Fin 56) (t : Fin 20) (l : Fin 128) (g' : Fin 56) (n : Fin 2560) (hg : g'.val = g.val)
    (hn : n.val = 128 * t.val + l.val) : zeroCode x3 g t l = code (x3 (ix2 g' ⟨n.val / 8, by omega⟩)) n.val := by
  unfold zeroCode
  rw [← code_add _ t.val l.val, ← hn]
  refine congrArg (fun w => code w _) (congrArg x3 (funext fun b => Fin.ext ?_))
  match b with
  | ⟨0, _⟩ => exact hg.symm
  | ⟨1, _⟩ => show 16 * t.val + l.val / 8 = n.val / 8; omega

section Piece

variable (arg2 : Memref sig .tc .vmem S7168x320 .i32) (harg2 : arg2.IsWhole) (arg7 : Memref sig .tc .vmem S20x56x2x128 .bf16)
  (arg8 : Memref sig .tc .vmem S20x56x128 .i32) (x1 : Vec Ideal S7168x320 .i32) (x2 : Vec Ideal S56x2560 .bf16) (x3 : Vec Ideal S56x320 .i32)
  (X7 : BufTy.Contents (Elt Ideal) arg7.view.ty) (X8 : BufTy.Contents (Elt Ideal) arg8.view.ty)

/-- A STORE OF A TRIP holds the weights of its rectangle, when the tables hold the scales and the zero points. -/
theorem piece_apply (h7 : arg7.view.read (Elt Ideal) X7 = scaleTab x2) (h8 : arg8.view.read (Elt Ideal) X8 = zeroTab x3)
    (k : Fin k0_t1_loop.trips) (n : Fin 5 × Fin 8 × Fin 4) (x : (piece (F := Ideal) arg2 arg7 arg8 (harg2.unread x1) X7 X8 shiftC srcC k n).1.shape.Idx) :
    (piece (F := Ideal) arg2 arg7 arg8 (harg2.unread x1) X7 X8 shiftC srcC k n).2 x
      = weights x1 x2 x3 ((piece (F := Ideal) arg2 arg7 arg8 (harg2.unread x1) X7 X8 shiftC srcC k n).1.emb x) := by
  obtain ⟨i, l, rfl⟩ : ∃ (i : Fin 16) (l : Fin 128), x = ix2 i l := ⟨x 0, x 1, eq_ix2 x⟩
  have hk := trips_lt k
  have hg := groupOf_eq k
  have hr := rowOf_eq k n.2.1
  have hp := n.2.1.isLt
  have hi := i.isLt
  have hl := l.isLt
  have hb := n.1.isLt
  have hs := n.2.2.isLt
  have e0 : ((piece (F := Ideal) arg2 arg7 arg8 (harg2.unread x1) X7 X8 shiftC srcC k n).1.emb (ix2 i l) 0).val = rowOf k n.2.1 + 1 * i.val := rfl
  have e1 : ((piece (F := Ideal) arg2 arg7 arg8 (harg2.unread x1) X7 X8 shiftC srcC k n).1.emb (ix2 i l) 1).val
      = 512 * n.1.val + 128 * n.2.2.val + 1 * l.val := rfl
  have e0' : ((piece (F := Ideal) arg2 arg7 arg8 (harg2.unread x1) X7 X8 shiftC srcC k n).1.emb (ix2 i l) 0).val / 128 = k.val := by
    rw [e0]; omega
  have e1' : ((piece (F := Ideal) arg2 arg7 arg8 (harg2.unread x1) X7 X8 shiftC srcC k n).1.emb (ix2 i l) 1).val
      = 128 * (4 * n.1.val + n.2.2.val) + l.val := by
    rw [e1]; omega
  refine (tile_apply n.2.2 _ _ _ i l).trans ?_
  unfold weights weight
  refine congrArg₂ (· * ·) (congrArg₂ (· - ·) (congrArg realOf ?_) ?_) ?_
  · unfold ldW
    rw [View.readAt_apply, harg2.read_unread]
    refine code_at x1 _ _ _ (4 * n.1.val + n.2.2.val) l.val e0.symm ?_ e1'
    show 64 * n.1.val + 1 * (16 * n.2.2.val + l.val / 8) = _
    omega
  · rw [pay_zero]
    unfold ldZ
    rw [View.readAt_apply, h8]
    unfold zeroTab
    rw [half_append]
    refine congrArg realOf (zeroCode_eq x3 _ _ _ _ _ ?_ ?_)
    · show _ / 128 = groupOf k + 1 * 0
      rw [e0']; omega
    · refine e1'.trans ?_
      show _ = 128 * (4 * n.1.val + n.2.2.val + 1 * 0) + (0 + 1 * l.val)
      omega
  · rw [pay_row]
    unfold ldS
    rw [View.readAt_apply, h7]
    unfold scaleTab
    refine congrArg x2 (funext fun b => Fin.ext ?_)
    match b with
    | ⟨0, _⟩ => show groupOf k + 1 * 0 = _ / 128; rw [e0']; omega
    | ⟨1, _⟩ =>
      refine Eq.trans ?_ e1.symm
      show 128 * (4 * n.1.val + n.2.2.val + 1 * 0) + (0 + 1 * l.val) = _
      omega

end Piece

/-- Every store of the trips holds the weights of its rectangle. -/
theorem trips_apply (c : Dev nD) (i : grid0.Coords) (arg1 : Memref sig .tc .vmem S256x7168 .bf16) (harg1 : arg1.IsWhole) (arg2 : Memref sig .tc .vmem S7168x320 .i32) (harg2 : arg2.IsWhole) (arg3 : Memref sig .tc .vmem S56x2560 .bf16) (harg3 : arg3.IsWhole) (arg4 : Memref sig .tc .vmem S56x320 .i32) (harg4 : arg4.IsWhole) (arg5 : Memref sig .tc .vmem S256x2560 .bf16) (harg5 : arg5.IsWhole) (arg6 : Memref sig .tc .vmem S7168x2560 .bf16) (harg6 : arg6.IsWhole) (arg7 : Memref sig .tc .vmem S20x56x2x128 .bf16) (harg7 : arg7.IsWhole) (arg8 : Memref sig .tc .vmem S20x56x128 .i32) (harg8 : arg8.IsWhole) (hc0 : cond0_0 i)
    (x1 : Vec Ideal S7168x320 .i32) (x2 : Vec Ideal S56x2560 .bf16) (x3 : Vec Ideal S56x320 .i32)
    (X7 : BufTy.Contents (Elt Ideal) arg7.view.ty) (X8 : BufTy.Contents (Elt Ideal) arg8.view.ty)
    (h7 : arg7.view.read (Elt Ideal) X7 = scaleTab x2) (h8 : arg8.view.read (Elt Ideal) X8 = zeroTab x3) :
    ∀ m : Nat, m ≤ k0_t1_loop.trips →
      ∀ p ∈ pb_k0_t1 (F := Ideal) Variants.none c none i arg1 harg1 arg2 harg2 arg3 harg3 arg4 harg4 arg5 harg5 arg6 harg6 arg7 harg7 arg8 harg8 hc0 shiftC srcC (harg2.unread x1) X7 X8 m, ∀ x : p.1.shape.Idx, p.2 x = weights x1 x2 x3 (p.1.emb x)
  | 0, _, p, hp, _ => absurd hp List.not_mem_nil
  | m + 1, hm, p, hp, x => by
    rw [pb_k0_t1_succ Variants.none c none i arg1 harg1 arg2 harg2 arg3 harg3 arg4 harg4 arg5 harg5 arg6 harg6 arg7 harg7 arg8 harg8 hc0 shiftC srcC (harg2.unread x1) X7 X8 ⟨m, hm⟩, List.mem_append] at hp
    rcases hp with hp | hp
    · rw [tripL_eq] at hp
      obtain ⟨n, -, rfl⟩ := List.mem_map.1 hp
      exact piece_apply arg2 harg2 arg7 arg8 x1 x2 x3 X7 X8 h7 h8 _ n x
    · exact trips_apply c i arg1 harg1 arg2 harg2 arg3 harg3 arg4 harg4 arg5 harg5 arg6 harg6 arg7 harg7 arg8 harg8 hc0 x1 x2 x3 X7 X8 h7 h8 m (Nat.le_of_succ_le hm) p hp x

/-- Every store of the first grid point holds the weights of its rectangle. -/
theorem all_apply (c : Dev nD) (i : grid0.Coords) (arg1 : Memref sig .tc .vmem S256x7168 .bf16) (harg1 : arg1.IsWhole) (arg2 : Memref sig .tc .vmem S7168x320 .i32) (harg2 : arg2.IsWhole) (arg3 : Memref sig .tc .vmem S56x2560 .bf16) (harg3 : arg3.IsWhole) (arg4 : Memref sig .tc .vmem S56x320 .i32) (harg4 : arg4.IsWhole) (arg5 : Memref sig .tc .vmem S256x2560 .bf16) (harg5 : arg5.IsWhole) (arg6 : Memref sig .tc .vmem S7168x2560 .bf16) (harg6 : arg6.IsWhole) (arg7 : Memref sig .tc .vmem S20x56x2x128 .bf16) (harg7 : arg7.IsWhole) (arg8 : Memref sig .tc .vmem S20x56x128 .i32) (harg8 : arg8.IsWhole) (hc0 : cond0_0 i)
    (x1 : Vec Ideal S7168x320 .i32) (x2 : Vec Ideal S56x2560 .bf16) (x3 : Vec Ideal S56x320 .i32) :
    ∀ p ∈ allPieces (F := Ideal) c i arg1 harg1 arg2 harg2 arg3 harg3 arg4 harg4 arg5 harg5 arg6 harg6 arg7 harg7 arg8 harg8 hc0 x1 x2 x3, ∀ x : p.1.shape.Idx, p.2 x = weights x1 x2 x3 (p.1.emb x) :=
  trips_apply c i arg1 harg1 arg2 harg2 arg3 harg3 arg4 harg4 arg5 harg5 arg6 harg6 arg7 harg7 arg8 harg8 hc0 x1 x2 x3 _ _ (read_scales arg3 harg3 arg7 x2) (read_zeros arg4 harg4 arg8 x3) _ (le_refl _)

end Cert.KernelIdeal.Values

end
-- ==== Proof.Codes.lean ====
/- A code over the exponent of 128 is 128 more than the field the reference reads, so the kernel's weights are the reference's. -/
module

public import proofs.«01_k».proof.Proof.Reference
public import proofs.«01_k».proof.Proof.Weights

@[expose] public section

set_option maxRecDepth 16384

noncomputable section

namespace Cert.ReferenceIdeal.Fields

open Idealize.ShloMosaic Idealize.ShloMosaic.Tactic
open Cert.KernelIdeal.Words Cert.KernelIdeal.Values

/-- The bit a column's field starts at. -/
def startBit (n : Nat) : Nat := 16 * (n % 2) + 4 * (n % 8 / 2)

/-- The four bits of a word that belong to a column. -/
def fourBits (w : BitVec 32) (n : Nat) : BitVec 4 := (w >>> startBit n).setWidth 4

/-- A column's field starts at one of eight bits. -/
theorem startBit_cases (n : Nat) : (n % 2 = 0 ∨ n % 2 = 1) ∧ (n % 8 / 2 = 0 ∨ n % 8 / 2 = 1 ∨ n % 8 / 2 = 2 ∨ n % 8 / 2 = 3) := by
  omega

/-- The kernel's code is the column's four bits over the exponent of 128. -/
theorem code_eq (w : BitVec 32) (n : Nat) : code w n = (fourBits w n).setWidth 16 ||| 17152#16 := by
  unfold code codeOf halfOf halfShift fourBits startBit
  obtain ⟨h | h, g | g | g | g⟩ := startBit_cases n <;> rw [h, g] <;> apply BitVec.eq_of_getLsbD_eq <;> intro i hi <;>
    simp only [BitVec.getLsbD_or, BitVec.getLsbD_and, BitVec.getLsbD_ushiftRight, BitVec.getLsbD_setWidth] <;> interval_cases i <;> simp

/-- Four bits over the exponent of 128 are 128 plus their number. -/
theorem realOf_over (c : BitVec 4) : realOf (c.setWidth 16 ||| 17152#16) = ((128 + (c.toNat : ℝ) : ℝ) : EReal) := by
  obtain ⟨⟨c, hc⟩⟩ := c
  show Ideal.ofBits .bf16 _ = _
  interval_cases c <;> simp [Ideal.ofBits, Ideal.ieee, -EReal.coe_mul, -EReal.coe_add] <;> norm_num

/-- The word the reference masks out is the column's four bits. -/
theorem masked_eq (w : BitVec 32) (n : Nat) :
    IntOp.andi (IntOp.shrsi .host w (BitVec.ofNat 32 (startBit n))) 15#32 = (fourBits w n).setWidth 32 := by
  have hs : (BitVec.ofNat 32 (startBit n)).toNat = startBit n := by
    rw [BitVec.toNat_ofNat]; unfold startBit; omega
  unfold IntOp.andi IntOp.shrsi
  rw [if_pos (by rw [hs]; unfold startBit; omega), BitVec.sshiftRight_eq', hs]
  unfold fourBits startBit
  obtain ⟨h | h, g | g | g | g⟩ := startBit_cases n <;> rw [h, g] <;> apply BitVec.eq_of_getLsbD_eq <;> intro i hi <;>
    simp only [BitVec.getLsbD_and, BitVec.getLsbD_ushiftRight, BitVec.getLsbD_sshiftRight, BitVec.getLsbD_setWidth] <;> interval_cases i <;> simp

/-- The reference's field is the number of the column's four bits. -/
theorem field_eq (w : BitVec 32) (n : Nat) : field w (BitVec.ofNat 32 (startBit n)) = (((fourBits w n).toNat : ℝ) : EReal) := by
  unfold field
  rw [masked_eq]
  generalize fourBits w n = c
  have hc : (c.setWidth 32).toInt = (c.toNat : Int) := by
    rw [BitVec.toInt_eq_toNat_of_lt] <;> rw [BitVec.toNat_setWidth, Nat.mod_eq_of_lt (by omega)]
    omega
  show (((c.setWidth 32).toInt : ℝ) : EReal) = _
  rw [hc]
  norm_cast

/-- The offset of 128 cancels between a weight and its zero point. -/
theorem code_sub_code (w z : BitVec 32) (n : Nat) :
    realOf (code w n) - realOf (code z n) = field w (BitVec.ofNat 32 (startBit n)) - field z (BitVec.ofNat 32 (startBit n)) := by
  rw [code_eq, code_eq, realOf_over, realOf_over, field_eq, field_eq]
  show ((_ : ℝ) : EReal) - ((_ : ℝ) : EReal) = ((_ : ℝ) : EReal) - ((_ : ℝ) : EReal)
  rw [← EReal.coe_sub, ← EReal.coe_sub]
  congr 1
  ring

/-- The kernel's weight of a column is the reference's weight at the column's place in its word. -/
theorem weight_eq (x1 : Vec Ideal Cert.ReferenceIdeal.S7168x320 .i32) (x2 : Vec Ideal Cert.ReferenceIdeal.S56x2560 .bf16)
    (x3 : Vec Ideal Cert.ReferenceIdeal.S56x320 .i32) (k : Fin 7168) (n : Fin 2560) :
    weight x1 x2 x3 k n = placeWeights (placeShift ⟨n.val % 8, by omega⟩) (n.val % 8) (slices ⟨n.val % 8, by omega⟩) x1 x2 x3 (ix2 k ⟨n.val / 8, by omega⟩) := by
  have hs : placeShift ⟨n.val % 8, by omega⟩ = BitVec.ofNat 32 (startBit n.val) := by
    show BitVec.ofNat 32 (16 * (n.val % 8 % 2) + 4 * (n.val % 8 / 2)) = _
    rw [Nat.mod_mod_of_dvd _ (by decide)]; rfl
  have hn : (⟨n.val % 8 + 8 * (n.val / 8), by omega⟩ : Fin 2560) = n := Fin.ext (Nat.mod_add_div _ _)
  refine .trans ?_ (placeWeights_apply _ _ (slices ⟨n.val % 8, by omega⟩) (by omega) x1 x2 x3 k ⟨n.val / 8, by omega⟩).symm
  dsimp only
  rw [hs, hn]
  unfold weight
  rw [code_sub_code]

end Cert.ReferenceIdeal.Fields

end
-- ==== Proof.Outputs.lean ====
/- What each grid point leaves: the weights in the scratch after the first point, and the point's block of inputs times the weights
   in the output block. -/
module

public import proofs.«01_k».proof.Proof.Weights

@[expose] public section

set_option maxRecDepth 16384

noncomputable section

namespace Cert.KernelIdeal.Values

open Idealize.ShloMosaic Idealize.ShloMosaic.Tactic Idealize.ShloMosaic.TcCoe
open Cert.KernelIdeal Cert.KernelIdeal.Gen Cert.KernelIdeal.Tile Cert.KernelIdeal.Words

/-- A block of inputs times the weights. -/
def product (x0 : Vec Ideal S256x7168 .bf16) (W : Vec Ideal S7168x2560 .bf16) : Vec Ideal S256x2560 .bf16 := fun j =>
  ∑ k : Fin 7168, x0 (ix2 (j 0) k) * W (ix2 k (j 1))

/-- One stored tile of 256 columns: the block of inputs times those columns. -/
theorem pay_product (a : Vec Ideal S256x7168 .bf16) (w : Vec Ideal S7168x256 .bf16) (r : Fin 256) (l : Fin 256) :
    k0_pay654 (F := Ideal) a w (ix2 r l) = ∑ k : Fin 7168, a (ix2 r k) * w (ix2 k l) := by
  pointwise [k0_pay654]

/-- A store of the output block agrees with the product. -/
theorem col_apply (arg1 : Memref sig .tc .vmem S256x7168 .bf16) (harg1 : arg1.IsWhole) (x0 : Vec Ideal S256x7168 .bf16)
    (W : Vec Ideal S7168x2560 .bf16) (w : Fin 10 → Vec Ideal S7168x256 .bf16) (hw : ∀ n j, w n j = W ((colRect n).toLoadRect.idx j)) (n : Fin 10)
    (x : (colPiece (F := Ideal) arg1 (harg1.unread x0) w n).1.shape.Idx) :
    (colPiece (F := Ideal) arg1 (harg1.unread x0) w n).2 x = product x0 W ((colPiece (F := Ideal) arg1 (harg1.unread x0) w n).1.emb x) := by
  obtain ⟨r, l, rfl⟩ : ∃ (r : Fin 256) (l : Fin 256), x = ix2 r l := ⟨x 0, x 1, eq_ix2 x⟩
  refine (pay_product _ _ r l).trans (Finset.sum_congr rfl fun k _ => congrArg₂ (· * ·) ?_ ?_)
  · rw [View.readAt_apply, harg1.read_unread]
    refine congrArg x0 (funext fun b => Fin.ext ?_)
    match b with
    | ⟨0, _⟩ => rfl
    | ⟨1, _⟩ => show 0 + 1 * k.val = k.val; omega
  · rw [hw]
    refine congrArg W (funext fun b => Fin.ext ?_)
    match b with
    | ⟨0, _⟩ => show 0 + 1 * k.val = k.val; omega
    | ⟨1, _⟩ => rfl

/-- THE FIRST POINT leaves the weights in the scratch. -/
theorem scratch_first (c : Dev nD) (i : grid0.Coords) (arg1 : Memref sig .tc .vmem S256x7168 .bf16) (harg1 : arg1.IsWhole) (arg2 : Memref sig .tc .vmem S7168x320 .i32) (harg2 : arg2.IsWhole) (arg3 : Memref sig .tc .vmem S56x2560 .bf16) (harg3 : arg3.IsWhole) (arg4 : Memref sig .tc .vmem S56x320 .i32) (harg4 : arg4.IsWhole) (arg5 : Memref sig .tc .vmem S256x2560 .bf16) (harg5 : arg5.IsWhole) (arg6 : Memref sig .tc .vmem S7168x2560 .bf16) (harg6 : arg6.IsWhole) (arg7 : Memref sig .tc .vmem S20x56x2x128 .bf16) (harg7 : arg7.IsWhole) (arg8 : Memref sig .tc .vmem S20x56x128 .i32) (harg8 : arg8.IsWhole) (hc0 : cond0_0 i)
    (x0 : Vec Ideal S256x7168 .bf16) (x1 : Vec Ideal S7168x320 .i32) (x2 : Vec Ideal S56x2560 .bf16) (x3 : Vec Ideal S56x320 .i32) :
    sout0_A_0 (F := Ideal) c i arg1 harg1 arg2 harg2 arg3 harg3 arg4 harg4 arg5 harg5 arg6 harg6 arg7 harg7 arg8 harg8 hc0 x0 x1 x2 x3 = weights x1 x2 x3 := by
  funext y
  refine View.read_writes_apply_of_pieces _ _ _ _ ?_ y (scover0_A_0 c i arg1 harg1 arg2 harg2 arg3 harg3 arg4 harg4 arg5 harg5 arg6 harg6 arg7 harg7 arg8 harg8 hc0 x0 x1 x2 x3 y)
  rw [runA_scratch]
  exact all_apply c i arg1 harg1 arg2 harg2 arg3 harg3 arg4 harg4 arg5 harg5 arg6 harg6 arg7 harg7 arg8 harg8 hc0 x1 x2 x3

/-- The weights the first point reads back. -/
theorem readback (c : Dev nD) (i : grid0.Coords) (arg1 : Memref sig .tc .vmem S256x7168 .bf16) (harg1 : arg1.IsWhole) (arg2 : Memref sig .tc .vmem S7168x320 .i32) (harg2 : arg2.IsWhole) (arg3 : Memref sig .tc .vmem S56x2560 .bf16) (harg3 : arg3.IsWhole) (arg4 : Memref sig .tc .vmem S56x320 .i32) (harg4 : arg4.IsWhole) (arg5 : Memref sig .tc .vmem S256x2560 .bf16) (harg5 : arg5.IsWhole) (arg6 : Memref sig .tc .vmem S7168x2560 .bf16) (harg6 : arg6.IsWhole) (arg7 : Memref sig .tc .vmem S20x56x2x128 .bf16) (harg7 : arg7.IsWhole) (arg8 : Memref sig .tc .vmem S20x56x128 .i32) (harg8 : arg8.IsWhole) (hc0 : cond0_0 i)
    (x0 : Vec Ideal S256x7168 .bf16) (x1 : Vec Ideal S7168x320 .i32) (x2 : Vec Ideal S56x2560 .bf16) (x3 : Vec Ideal S56x320 .i32) (n : Fin 10)
    (j : (colRect n).toLoadRect.shape.Idx) :
    arg6.view.readCov (Val := Elt Ideal) (allPieces (F := Ideal) c i arg1 harg1 arg2 harg2 arg3 harg3 arg4 harg4 arg5 harg5 arg6 harg6 arg7 harg7 arg8 harg8 hc0 x1 x2 x3) (colRect n).toLoadRect j
      = weights x1 x2 x3 ((colRect n).toLoadRect.idx j) := by
  unfold View.readCov
  rw [View.readAt_apply]
  refine View.read_writes_apply_of_pieces _ _ _ _ (all_apply c i arg1 harg1 arg2 harg2 arg3 harg3 arg4 harg4 arg5 harg5 arg6 harg6 arg7 harg7 arg8 harg8 hc0 x1 x2 x3) _ ?_
  rw [← runA_scratch c i arg1 harg1 arg2 harg2 arg3 harg3 arg4 harg4 arg5 harg5 arg6 harg6 arg7 harg7 arg8 harg8 hc0 x0 x1 x2 x3]
  exact scover0_A_0 c i arg1 harg1 arg2 harg2 arg3 harg3 arg4 harg4 arg5 harg5 arg6 harg6 arg7 harg7 arg8 harg8 hc0 x0 x1 x2 x3 _

/-- THE FIRST POINT'S OUTPUT is its block of inputs times the weights. -/
theorem out_first (c : Dev nD) (i : grid0.Coords) (arg1 : Memref sig .tc .vmem S256x7168 .bf16) (harg1 : arg1.IsWhole) (arg2 : Memref sig .tc .vmem S7168x320 .i32) (harg2 : arg2.IsWhole) (arg3 : Memref sig .tc .vmem S56x2560 .bf16) (harg3 : arg3.IsWhole) (arg4 : Memref sig .tc .vmem S56x320 .i32) (harg4 : arg4.IsWhole) (arg5 : Memref sig .tc .vmem S256x2560 .bf16) (harg5 : arg5.IsWhole) (arg6 : Memref sig .tc .vmem S7168x2560 .bf16) (harg6 : arg6.IsWhole) (arg7 : Memref sig .tc .vmem S20x56x2x128 .bf16) (harg7 : arg7.IsWhole) (arg8 : Memref sig .tc .vmem S20x56x128 .i32) (harg8 : arg8.IsWhole) (hc0 : cond0_0 i)
    (x0 : Vec Ideal S256x7168 .bf16) (x1 : Vec Ideal S7168x320 .i32) (x2 : Vec Ideal S56x2560 .bf16) (x3 : Vec Ideal S56x320 .i32) :
    out0_A_4 (F := Ideal) c i arg1 harg1 arg2 harg2 arg3 harg3 arg4 harg4 arg5 harg5 arg6 harg6 arg7 harg7 arg8 harg8 hc0 x0 x1 x2 x3 = product x0 (weights x1 x2 x3) := by
  funext y
  refine View.read_writes_apply_of_pieces _ _ _ _ ?_ y (cover0_A_4 c i arg1 harg1 arg2 harg2 arg3 harg3 arg4 harg4 arg5 harg5 arg6 harg6 arg7 harg7 arg8 harg8 hc0 x0 x1 x2 x3 y)
  rw [runA_out]
  intro p hp
  obtain ⟨n, -, rfl⟩ := List.mem_map.1 hp
  exact col_apply arg1 harg1 x0 _ _ (fun n j => readback c i arg1 harg1 arg2 harg2 arg3 harg3 arg4 harg4 arg5 harg5 arg6 harg6 arg7 harg7 arg8 harg8 hc0 x0 x1 x2 x3 n j) n

/-- A LATER POINT'S OUTPUT is its block of inputs times what the scratch holds. -/
theorem out_later (c : Dev nD) (i : grid0.Coords) (arg1 : Memref sig .tc .vmem S256x7168 .bf16) (harg1 : arg1.IsWhole) (arg2 : Memref sig .tc .vmem S7168x320 .i32) (harg2 : arg2.IsWhole) (arg3 : Memref sig .tc .vmem S56x2560 .bf16) (harg3 : arg3.IsWhole) (arg4 : Memref sig .tc .vmem S56x320 .i32) (harg4 : arg4.IsWhole) (arg5 : Memref sig .tc .vmem S256x2560 .bf16) (harg5 : arg5.IsWhole) (arg6 : Memref sig .tc .vmem S7168x2560 .bf16) (harg6 : arg6.IsWhole) (arg7 : Memref sig .tc .vmem S20x56x2x128 .bf16) (harg7 : arg7.IsWhole) (arg8 : Memref sig .tc .vmem S20x56x128 .i32) (harg8 : arg8.IsWhole) (hc0 : ¬cond0_0 i)
    (x0 : Vec Ideal S256x7168 .bf16) (x1 : Vec Ideal S7168x320 .i32) (x2 : Vec Ideal S56x2560 .bf16) (x3 : Vec Ideal S56x320 .i32) (xs0 : Vec Ideal S7168x2560 .bf16) :
    out0_B_4 (F := Ideal) c i arg1 harg1 arg2 harg2 arg3 harg3 arg4 harg4 arg5 harg5 arg6 harg6 arg7 harg7 arg8 harg8 hc0 x0 x1 x2 x3 xs0 = product x0 xs0 := by
  funext y
  refine View.read_writes_apply_of_pieces _ _ _ _ ?_ y (cover0_B_4 c i arg1 harg1 arg2 harg2 arg3 harg3 arg4 harg4 arg5 harg5 arg6 harg6 arg7 harg7 arg8 harg8 hc0 x0 x1 x2 x3 xs0 y)
  rw [runB_out]
  intro p hp
  obtain ⟨n, -, rfl⟩ := List.mem_map.1 hp
  exact col_apply arg1 harg1 x0 _ _ (fun n j => (View.readAt_apply ..).trans (congrFun (harg6.read_unread xs0) _)) n

end Cert.KernelIdeal.Values

end
-- ==== Proof.Final.lean ====
/- The result array: every grid point leaves its 256 rows of the inputs times the weights, and the blocks cover the array. -/
module

public import proofs.«01_k».proof.Proof.Outputs
public import Idealize.ShloMosaic.Lib.Pipeline.ValueKit
public import Idealize.ShloMosaic.Lib.Claim
public import Idealize.ShloMosaic.Lib.Pointwise

@[expose] public section

set_option maxRecDepth 16384

noncomputable section

namespace Cert.KernelIdeal.Final

open Idealize.ShloMosaic Idealize.ShloMosaic.Tactic Idealize.ShloMosaic.TcCoe Idealize.SL.Sem
open Idealize.ShloMosaic.Pipeline (Dat)
open Cert.KernelIdeal Cert.KernelIdeal.Gen Cert.KernelIdeal.Values

variable (m : (ℓ : Loc nD τ sig) → Buf (Elt Ideal) ℓ) (ρ : Dev nD → PrngReg)

/-- The block indices of the five windows: the inputs' rows and the output's rows follow the grid, the rest are whole arrays. -/
theorem idx : ∀ t : Fin cfg0.N, win0_0.index t = ![t.val, 0] ∧ win0_1.index t = ![0, 0] ∧ win0_2.index t = ![0, 0] ∧ win0_3.index t = ![0, 0]
    ∧ win0_4.index t = ![t.val, 0] :=
  (by decide +kernel : ∀ t : Fin grid0.N, _)

/-- The packed weights are one whole block. -/
theorem iblk1 (c : Dev nD) (t : Fin cfg0.N) : iblk m c 1 t = m ((c : Thread nD τ).loc main_arg1) := by
  refine Eq.trans ?_ (V_main_arg1 m c)
  blk_ext! [iblk, idx t]

/-- The scales are one whole block. -/
theorem iblk2 (c : Dev nD) (t : Fin cfg0.N) : iblk m c 2 t = m ((c : Thread nD τ).loc main_arg2) := by
  refine Eq.trans ?_ (V_main_arg2 m c)
  blk_ext! [iblk, idx t]

/-- The packed zero points are one whole block. -/
theorem iblk3 (c : Dev nD) (t : Fin cfg0.N) : iblk m c 3 t = m ((c : Thread nD τ).loc main_arg3) := by
  refine Eq.trans ?_ (V_main_arg3 m c)
  blk_ext! [iblk, idx t]

/-- The weights of the arguments. -/
def WEIGHTS (c : Dev nD) : Vec Ideal S7168x2560 .bf16 :=
  weights (m ((c : Thread nD τ).loc main_arg1)) (m ((c : Thread nD τ).loc main_arg2)) (m ((c : Thread nD τ).loc main_arg3))

/-- EVERY POINT leaves the weights in the scratch. -/
theorem scratch (c : Dev nD) : ∀ (n : ℕ) (hn : n < cfg0.N), (outsAt0 m c n hn).2 = WEIGHTS m c
  | 0, hn => by
    rw [outsAt0_A m c ⟨0, hn⟩ rfl]
    refine (scratch_first ..).trans ?_
    rw [iblk1, iblk2, iblk3]; rfl
  | n + 1, hn => by
    by_cases h0 : (n + 1) % 64 = 0
    · rw [outsAt0_A m c ⟨n + 1, hn⟩ h0]
      refine (scratch_first ..).trans ?_
      rw [iblk1, iblk2, iblk3]; rfl
    · rw [outsAt0_B m c ⟨n + 1, hn⟩ h0]
      exact scratch c n _

/-- EVERY POINT'S OUTPUT is its block of inputs times the weights. -/
theorem output (c : Dev nD) (t : Fin cfg0.N) : (outsAt0 m c t.val t.isLt).1 = product (iblk m c 0 t) (WEIGHTS m c) := by
  by_cases h0 : t.val % 64 = 0
  · rw [outsAt0_A m c t h0]
    dsimp only
    rw [out_first, iblk1, iblk2, iblk3]; rfl
  · rw [outsAt0_B m c t h0]
    dsimp only
    rw [out_later, scratch]

/-- What the result array holds: the reshaped inputs times the weights. -/
def RESULT (X : Vec Ideal S16384x7168 .bf16) (W : Vec Ideal S7168x2560 .bf16) : Vec Ideal S16384x2560 .bf16 := fun j =>
  ∑ k : Fin 7168, X (ix2 (j 0) k) * W (ix2 k (j 1))

/-- A point's block of inputs is its 256 rows. -/
theorem iblk0_apply (c : Dev nD) (t : Fin cfg0.N) (r : Fin 256) (k : Fin 7168) (R : Fin 16384) (hR : R.val = t.val * 256 + r.val) :
    iblk m c 0 t (ix2 r k) = V m c main_v0 (ix2 R k) := by
  unfold iblk
  blk_simp
  have h := (idx t).1
  refine congrArg (V m c main_v0) (funext fun b => Fin.ext ?_)
  match b with
  | ⟨0, _⟩ =>
    show win0_0.index t 0 * 256 + 1 * r.val = R.val
    rw [h, hR]
    show t.val * 256 + 1 * r.val = _
    omega
  | ⟨1, _⟩ =>
    show win0_0.index t 1 * 7168 + 1 * k.val = k.val
    rw [h]
    show 0 * 7168 + 1 * k.val = _
    omega

/-- A point's output block is its 256 rows of the result. -/
theorem block_apply (c : Dev nD) (t : Fin cfg0.N) (r : Fin 256) (l : Fin 2560) (j : S16384x2560.Idx) (hr : (j 0).val = t.val * 256 + r.val)
    (hl : (j 1).val = l.val) : product (iblk m c 0 t) (WEIGHTS m c) (ix2 r l) = RESULT (V m c main_v0) (WEIGHTS m c) j := by
  unfold product RESULT
  refine Finset.sum_congr rfl fun k _ => congrArg₂ (· * ·) (iblk0_apply m c t r k _ hr) (congrArg (WEIGHTS m c) (funext fun b => Fin.ext ?_))
  match b with
  | ⟨0, _⟩ => rfl
  | ⟨1, _⟩ => exact hl.symm

/-- THE RESULT ARRAY of the region. -/
theorem final (c : Dev nD) : (dats m 0 c).arrAt 4 cfg0.N = RESULT (V m c main_v0) (WEIGHTS m c) := by
  refine (dats m 0 c).arrAt_eq_of_covers 4 _ (by decide +kernel) fun t hf y => ?_
  blk_simp
  rw [after0_4, output]
  obtain ⟨r, l, rfl⟩ : ∃ (r : Fin 256) (l : Fin 2560), y = ix2 r l := ⟨y 0, y 1, eq_ix2 y⟩
  have h := (idx t).2.2.2.2
  have hr : ((win0_4.blk t).view.emb (ix2 r l) 0).val = t.val * 256 + r.val := by
    show win0_4.index t 0 * 256 + 1 * r.val = _
    rw [h]
    show t.val * 256 + 1 * r.val = _
    omega
  have hl : ((win0_4.blk t).view.emb (ix2 r l) 1).val = l.val := by
    show win0_4.index t 1 * 2560 + 1 * l.val = _
    rw [h]
    show 0 * 2560 + 1 * l.val = _
    omega
  exact block_apply m c t r l _ hr hl

/-- The region finds the inputs reshaped to rows. -/
theorem rows (c : Dev nD) : V m c main_v0 = shapeCast S16384x7168 (m ((c : Thread nD τ).loc main_arg0)) shapeCasts_S16x1024x7168_S16384x7168 := by
  show StableHlo.after (List.flatten [hostOps0]) (fun b => m (c, b)) (Proc.devRef .tc main_v0) = _
  simp only [hostOps0, List.flatten_cons, List.flatten_nil, List.append_nil]
  after_region_results
  rfl

/-- The result buffer is the region's array reshaped. -/
theorem tail (c : Dev nD) : Pipeline.afterTail₀ cfgs (dats m) 0 (V0 m) [hostOps1] c main_v2
    = shapeCast S16x1024x2560 ((dats m 0 c).arrAt 4 cfg0.N) shapeCasts_S16384x2560_S16x1024x2560 := by
  unfold Pipeline.afterTail₀
  simp only [hostOps1, List.flatten_cons, List.flatten_nil, List.append_nil]
  after_region_results
  have h := Pipeline.withArrays_arr spec0 launch0.win.arr_inj c (V0 m c) (fun w => (dats m 0 c).arrAt w cfg0.N) 4
  exact congrArg (fun v => shapeCast S16x1024x2560 v shapeCasts_S16384x2560_S16x1024x2560) h

/-- The program's result, as a function of its arguments. -/
def OUT (x0 : Vec Ideal S16x1024x7168 .bf16) (x1 : Vec Ideal S7168x320 .i32) (x2 : Vec Ideal S56x2560 .bf16) (x3 : Vec Ideal S56x320 .i32) :
    Vec Ideal S16x1024x2560 .bf16 := fun j =>
  ∑ k : Fin 7168, x0 (ix3 (j 0) (j 1) k) * weight x1 x2 x3 k (j 2)

/-- The result array read at an index. -/
theorem out_apply (x0 : Vec Ideal S16x1024x7168 .bf16) (W : Vec Ideal S7168x2560 .bf16) (a : Fin 16) (b : Fin 1024) (n : Fin 2560) :
    shapeCast S16x1024x2560 (RESULT (shapeCast S16384x7168 x0 shapeCasts_S16x1024x7168_S16384x7168) W) shapeCasts_S16384x2560_S16x1024x2560 (ix3 a b n)
      = ∑ k : Fin 7168, x0 (ix3 a b k) * W (ix2 k n) := by
  pointwise [RESULT]

/-- THE RUN, READ: the result buffer at the inputs times the weights, the arguments unchanged. -/
theorem run : θ_run defs (onTc (τ := τ) (main (F := Ideal))) ⟨m, fun _ => 0, ρ⟩ fun r => ∀ c : Dev nD,
    r.2.mem ((c.tc : Thread nD τ).loc main_v2) = OUT (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨?_, h.2 c⟩) (θ_run_and (run_main m ρ) (unchanged m ρ))
  refine ((h.1 c).2 main_v2 (Pipeline.mem_restRefs_of main_v2 (by decide) (by decide))).trans ((tail m c).trans ?_)
  rw [final, rows]
  funext j
  obtain ⟨a, b, n, rfl⟩ : ∃ (a : Fin 16) (b : Fin 1024) (n : Fin 2560), j = ix3 a b n := ⟨j 0, j 1, j 2, eq_ix3 j⟩
  exact out_apply _ _ a b n

end Cert.KernelIdeal.Final

end
-- ==== Proof.Algebraic.lean ====
/- The value claim: over the extended reals the kernel and the reference end with the same result array. -/
module

public import proofs.«01_k».proof.Defs
public import proofs.«01_k».proof.Proof.Codes
public import proofs.«01_k».proof.Proof.Final

@[expose] public section

noncomputable section

namespace Cert.Proof

open Idealize.ShloMosaic Idealize.ShloMosaic.Tactic Idealize.SL.Sem
open Cert.ReferenceIdeal.Fields

/-- The kernel's result array is the reference's, whatever the arguments. -/
theorem out_eq_reference (x0 : Vec Ideal Cert.ReferenceIdeal.S16x1024x7168 .bf16) (x1 : Vec Ideal Cert.ReferenceIdeal.S7168x320 .i32)
    (x2 : Vec Ideal Cert.ReferenceIdeal.S56x2560 .bf16) (x3 : Vec Ideal Cert.ReferenceIdeal.S56x320 .i32) :
    Cert.KernelIdeal.Final.OUT x0 x1 x2 x3 = Cert.ReferenceIdeal.Read.val_main_v170 (F := Ideal) x0 x1 x2 x3 := by
  funext j
  obtain ⟨a, b, n, rfl⟩ : ∃ (a : Fin 16) (b : Fin 1024) (n : Fin 2560), j = ix3 a b n := ⟨j 0, j 1, j 2, eq_ix3 j⟩
  refine .trans ?_ ((result x0 x1 x2 x3 a b n).trans (part_apply x0 x1 x2 x3 _ a b _)).symm
  exact Finset.sum_congr rfl fun k _ => congrArg (x0 (ix3 a b k) * ·) (weight_eq x1 x2 x3 k n)

/-- What the reference's run leaves, as the kernel's result of the arguments. -/
theorem reference_value (V : Valuation Cert.ReferenceIdeal.τ Cert.ReferenceIdeal.sig (Elt Ideal)) :
    truncf (F := Ideal) .bf16 (shapeCast _ (Cert.ReferenceIdeal.Value.res_main_v168 V) Cert.ReferenceIdeal.Gen.shapeCasts_S16x1024x320x8_S16x1024x2560) Cert.ReferenceIdeal.Gen.bitsLt_bf16_f32
      = Cert.KernelIdeal.Final.OUT (V (Proc.devRef .tc Cert.ReferenceIdeal.main_arg0)) (V (Proc.devRef .tc Cert.ReferenceIdeal.main_arg1))
          (V (Proc.devRef .tc Cert.ReferenceIdeal.main_arg2)) (V (Proc.devRef .tc Cert.ReferenceIdeal.main_arg3)) :=
  (Cert.ReferenceIdeal.Read.val_main_v170_eq V).trans (out_eq_reference _ _ _ _).symm

/-- The kernel's result depends on the four arguments only. -/
theorem out_congr {x0 y0 : Vec Ideal Cert.ReferenceIdeal.S16x1024x7168 .bf16} {x1 y1 : Vec Ideal Cert.ReferenceIdeal.S7168x320 .i32}
    {x2 y2 : Vec Ideal Cert.ReferenceIdeal.S56x2560 .bf16} {x3 y3 : Vec Ideal Cert.ReferenceIdeal.S56x320 .i32}
    (h0 : x0 = y0) (h1 : x1 = y1) (h2 : x2 = y2) (h3 : x3 = y3) : Cert.KernelIdeal.Final.OUT x0 x1 x2 x3 = Cert.KernelIdeal.Final.OUT y0 y1 y2 y3 := by
  rw [h0, h1, h2, h3]

/-- Over the extended reals the kernel and the reference, run on the same arguments, end with the same result and leave the arguments as they were. -/
theorem algebraic : Cert.algebraic_KernelIdeal_ReferenceIdeal := fun m g m' g' _ hagree =>
  ⟨fun c => Cert.KernelIdeal.Final.OUT (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Final.run m g,
    (θ_run Cert.ReferenceIdeal.defs _ _).mono (fun _ h c => ⟨(h c).1.trans ((reference_value _).trans
        (out_congr (hagree c).1 (hagree c).2.1 (hagree c).2.2.1 (hagree c).2.2.2)), (h c).2⟩)
      (Cert.ReferenceIdeal.Value.run (F := Ideal) m' g')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Tile
public import proofs.«01_k».proof.Proof.Claims
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The claim: the three frames, that the rules' readings preserve the words, and that the kernel and the reference end with the same result. -/
theorem claim : Cert.Claim := ⟨Cert.Kernel.Gen.facts, Cert.KernelIdeal.Gen.facts, Cert.ReferenceIdeal.Gen.facts, frame_kernel, frame_kernel_ideal, frame_reference,
  preserves, algebraic⟩

end Cert.Proof

end
